-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S8x32x2x512 Cert.KernelIdeal.S8x32x1x512
  ∧ IdealRules.bf16_pair.PackStatement Cert.KernelIdeal.S28x512
  ∧ IdealRules.bf16_pair.Statement Cert.KernelIdeal.S1x28x2x512 Cert.KernelIdeal.S1x28x1x512
  ∧ IdealRules.bf16_pair.Statement Cert.KernelIdeal.S8x1x2x256 Cert.KernelIdeal.S8x1x1x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x7168 : Shape := ⟨3, ![1, 128, 7168]⟩
abbrev S18432x28x32 : Shape := ⟨3, ![18432, 28, 32]⟩
abbrev S18432x28x64 : Shape := ⟨3, ![18432, 28, 64]⟩
abbrev S18432x28x12 : Shape := ⟨3, ![18432, 28, 12]⟩
abbrev S18432x28 : Shape := ⟨2, ![18432, 28]⟩
abbrev S128x7168 : Shape := ⟨2, ![128, 7168]⟩
abbrev S28x32x18432 : Shape := ⟨3, ![28, 32, 18432]⟩
abbrev S28x64x18432 : Shape := ⟨3, ![28, 64, 18432]⟩
abbrev S12x28x18432 : Shape := ⟨3, ![12, 28, 18432]⟩
abbrev S28x18432 : Shape := ⟨2, ![28, 18432]⟩
abbrev S128x18432 : Shape := ⟨2, ![128, 18432]⟩
abbrev S28x32x512 : Shape := ⟨3, ![28, 32, 512]⟩
abbrev S28x64x512 : Shape := ⟨3, ![28, 64, 512]⟩
abbrev S12x28x512 : Shape := ⟨3, ![12, 28, 512]⟩
abbrev S28x512 : Shape := ⟨2, ![28, 512]⟩
abbrev S128x512 : Shape := ⟨2, ![128, 512]⟩
abbrev S8x32x512 : Shape := ⟨3, ![8, 32, 512]⟩
abbrev S256x256 : Shape := ⟨2, ![256, 256]⟩
abbrev S128x256 : Shape := ⟨2, ![128, 256]⟩
abbrev S1x28x512 : Shape := ⟨3, ![1, 28, 512]⟩
abbrev S8x8x256 : Shape := ⟨3, ![8, 8, 256]⟩
abbrev S8x1x256 : Shape := ⟨3, ![8, 1, 256]⟩
abbrev S1x64x256 : Shape := ⟨3, ![1, 64, 256]⟩
abbrev S64x256 : Shape := ⟨2, ![64, 256]⟩
abbrev S16x256 : Shape := ⟨2, ![16, 256]⟩
abbrev S1x32x256 : Shape := ⟨3, ![1, 32, 256]⟩
abbrev S32x256 : Shape := ⟨2, ![32, 256]⟩
abbrev S8x256 : Shape := ⟨2, ![8, 256]⟩
abbrev S1x1x256 : Shape := ⟨3, ![1, 1, 256]⟩
abbrev S1x256 : Shape := ⟨2, ![1, 256]⟩
abbrev S1x128x18432 : Shape := ⟨3, ![1, 128, 18432]⟩

abbrev nBuf : Space → Nat
  | .hbm => 12
  | .vmem => 13
  | .smem => 0
  | _ => 0

abbrev bufTy : (tb : Table) → Fin (tcTables nBuf tb) → BufTy
  | .hbm, ⟨0, _⟩ => ⟨S1x128x7168, .bf16⟩
  | .hbm, ⟨1, _⟩ => ⟨S18432x28x32, .i8⟩
  | .hbm, ⟨2, _⟩ => ⟨S18432x28x64, .i8⟩
  | .hbm, ⟨3, _⟩ => ⟨S18432x28x12, .i8⟩
  | .hbm, ⟨4, _⟩ => ⟨S18432x28, .i16⟩
  | .hbm, ⟨5, _⟩ => ⟨S128x7168, .bf16⟩
  | .hbm, ⟨6, _⟩ => ⟨S28x32x18432, .i8⟩
  | .hbm, ⟨7, _⟩ => ⟨S28x64x18432, .i8⟩
  | .hbm, ⟨8, _⟩ => ⟨S12x28x18432, .i8⟩
  | .hbm, ⟨9, _⟩ => ⟨S28x18432, .i16⟩
  | .hbm, ⟨10, _⟩ => ⟨S128x18432, .bf16⟩
  | .hbm, ⟨11, _⟩ => ⟨S1x128x18432, .bf16⟩
  | .local _ .vmem, ⟨0, _⟩ => ⟨S128x7168, .bf16⟩
  | .local _ .vmem, ⟨1, _⟩ => ⟨S28x32x512, .i8⟩
  | .local _ .vmem, ⟨2, _⟩ => ⟨S28x32x512, .i8⟩
  | .local _ .vmem, ⟨3, _⟩ => ⟨S28x64x512, .i8⟩
  | .local _ .vmem, ⟨4, _⟩ => ⟨S28x64x512, .i8⟩
  | .local _ .vmem, ⟨5, _⟩ => ⟨S12x28x512, .i8⟩
  | .local _ .vmem, ⟨6, _⟩ => ⟨S12x28x512, .i8⟩
  | .local _ .vmem, ⟨7, _⟩ => ⟨S28x512, .i16⟩
  | .local _ .vmem, ⟨8, _⟩ => ⟨S28x512, .i16⟩
  | .local _ .vmem, ⟨9, _⟩ => ⟨S128x512, .bf16⟩
  | .local _ .vmem, ⟨10, _⟩ => ⟨S128x512, .bf16⟩
  | .local _ .vmem, ⟨11, _⟩ => ⟨S128x7168, .bf16⟩
  | .local _ .vmem, ⟨12, _⟩ => ⟨S8x32x512, .i32⟩
  | _, _ => ⟨S1x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S28x32x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x64x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x28x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S8x32x2x512 : Shape := ⟨4, ![8, 32, 2, 512]⟩
abbrev S8x32x1x512 : Shape := ⟨4, ![8, 32, 1, 512]⟩
abbrev S1x28x2x512 : Shape := ⟨4, ![1, 28, 2, 512]⟩
abbrev S1x28x1x512 : Shape := ⟨4, ![1, 28, 1, 512]⟩
abbrev S8x1x2x256 : Shape := ⟨4, ![8, 1, 2, 256]⟩
abbrev S8x1x1x256 : Shape := ⟨4, ![8, 1, 1, 256]⟩
  | .local _ .vmem, ⟨12, _⟩ => ⟨S8x32x2x512, .bf16⟩
variable {F : FTy → Type} [FloatOps F]
-- ==== ReferenceIdeal.lean ====
abbrev S1x128x7168 : Shape := ⟨3, ![1, 128, 7168]⟩
abbrev S18432x28x32 : Shape := ⟨3, ![18432, 28, 32]⟩
abbrev S18432x28x64 : Shape := ⟨3, ![18432, 28, 64]⟩
abbrev S18432x28x12 : Shape := ⟨3, ![18432, 28, 12]⟩
abbrev S18432x28 : Shape := ⟨2, ![18432, 28]⟩
abbrev S18432x28x8 : Shape := ⟨3, ![18432, 28, 8]⟩
abbrev S_ : Shape := ⟨0, ![]⟩
abbrev S18432x28x16 : Shape := ⟨3, ![18432, 28, 16]⟩
abbrev S18432x28x4 : Shape := ⟨3, ![18432, 28, 4]⟩
abbrev S18432x28x1x4 : Shape := ⟨4, ![18432, 28, 1, 4]⟩
abbrev S18432x28x4x4 : Shape := ⟨4, ![18432, 28, 4, 4]⟩
abbrev S18432x28x1 : Shape := ⟨3, ![18432, 28, 1]⟩
abbrev S1x128x28x2x4x32 : Shape := ⟨6, ![1, 128, 28, 2, 4, 32]⟩
abbrev S18432x28x2x16 : Shape := ⟨4, ![18432, 28, 2, 16]⟩
abbrev S18432x28x2 : Shape := ⟨3, ![18432, 28, 2]⟩
abbrev S18432x28x2x1 : Shape := ⟨4, ![18432, 28, 2, 1]⟩
abbrev S1x128x28x1x1x32 : Shape := ⟨6, ![1, 128, 28, 1, 1, 32]⟩
abbrev S1x128x28x32 : Shape := ⟨4, ![1, 128, 28, 32]⟩
abbrev S1x128x18432 : Shape := ⟨3, ![1, 128, 18432]⟩

abbrev nBuf : Space → Nat
  | .hbm => 303
  | .vmem => 2
  | .smem => 0
  | _ => 0

abbrev hbmTy0_0 (i : Nat) : BufTy := match i % 128 with
  | 0 => ⟨S1x128x7168, .bf16⟩
  | 1 => ⟨S18432x28x32, .i8⟩
  | 2 => ⟨S18432x28x64, .i8⟩
  | 3 => ⟨S18432x28x12, .i8⟩
  | 4 => ⟨S18432x28, .i16⟩
  | 5 => ⟨S18432x28, .f32⟩
  | 6 => ⟨S18432x28x12, .i32⟩
  | 7 => ⟨S18432x28x8, .i32⟩
  | 8 => ⟨S_, .i32⟩
  | 9 => ⟨S18432x28x8, .i32⟩
  | 10 => ⟨S18432x28x8, .i32⟩
  | 11 => ⟨S_, .i32⟩
  | 12 => ⟨S18432x28x8, .i32⟩
  | 13 => ⟨S18432x28x8, .i32⟩
  | 14 => ⟨S18432x28x16, .i32⟩
  | 15 => ⟨S18432x28x4, .i32⟩
  | 16 => ⟨S_, .i32⟩
  | 17 => ⟨S18432x28x4, .i32⟩
  | 18 => ⟨S18432x28x4, .i32⟩
  | 19 => ⟨S_, .i32⟩
  | 20 => ⟨S18432x28x4, .i32⟩
  | 21 => ⟨S18432x28x4, .i32⟩
  | 22 => ⟨S_, .i32⟩
  | 23 => ⟨S18432x28x4, .i32⟩
  | 24 => ⟨S18432x28x4, .i32⟩
  | 25 => ⟨S_, .i32⟩
  | 26 => ⟨S18432x28x4, .i32⟩
  | 27 => ⟨S18432x28x4, .i32⟩
  | 28 => ⟨S_, .i32⟩
  | 29 => ⟨S18432x28x4, .i32⟩
  | 30 => ⟨S18432x28x4, .i32⟩
  | 31 => ⟨S_, .i32⟩
  | 32 => ⟨S18432x28x4, .i32⟩
  | 33 => ⟨S18432x28x4, .i32⟩
  | 34 => ⟨S_, .i32⟩
  | 35 => ⟨S18432x28x4, .i32⟩
  | 36 => ⟨S18432x28x4, .i32⟩
  | 37 => ⟨S_, .i32⟩
  | 38 => ⟨S18432x28x4, .i32⟩
  | 39 => ⟨S18432x28x4, .i32⟩
  | 40 => ⟨S18432x28x1x4, .i32⟩
  | 41 => ⟨S18432x28x1x4, .i32⟩
  | 42 => ⟨S18432x28x1x4, .i32⟩
  | 43 => ⟨S18432x28x1x4, .i32⟩
  | 44 => ⟨S18432x28x4x4, .i32⟩
  | 45 => ⟨S18432x28x16, .i32⟩
  | 46 => ⟨S_, .i32⟩
  | 47 => ⟨S18432x28x16, .i32⟩
  | 48 => ⟨S18432x28x16, .i32⟩
  | 49 => ⟨S18432x28x16, .i32⟩
  | 50 => ⟨S18432x28x1, .f32⟩
  | 51 => ⟨S_, .i32⟩
  | 52 => ⟨S18432x28x16, .i32⟩
  | 53 => ⟨S18432x28x16, .i32⟩
  | 54 => ⟨S18432x28x16, .f32⟩
  | 55 => ⟨S18432x28x16, .f32⟩
  | 56 => ⟨S18432x28x16, .f32⟩
  | 57 => ⟨S18432x28x16, .bf16⟩
  | 58 => ⟨S1x128x28x2x4x32, .bf16⟩
  | 59 => ⟨S18432x28x64, .i32⟩
  | 60 => ⟨S18432x28x32, .i32⟩
  | 61 => ⟨S18432x28x32, .i32⟩
  | 62 => ⟨S_, .i32⟩
  | 63 => ⟨S18432x28x32, .i32⟩
  | 64 => ⟨S18432x28x32, .i32⟩
  | 65 => ⟨S_, .i32⟩
  | 66 => ⟨S18432x28x32, .i32⟩
  | 67 => ⟨S18432x28x32, .i32⟩
  | 68 => ⟨S_, .i32⟩
  | 69 => ⟨S18432x28x32, .i32⟩
  | 70 => ⟨S18432x28x32, .i32⟩
  | 71 => ⟨S_, .i32⟩
  | 72 => ⟨S18432x28x32, .i32⟩
  | 73 => ⟨S18432x28x32, .i32⟩
  | 74 => ⟨S_, .i32⟩
  | 75 => ⟨S18432x28x32, .i32⟩
  | 76 => ⟨S18432x28x32, .i32⟩
  | 77 => ⟨S18432x28x32, .i32⟩
  | 78 => ⟨S_, .i32⟩
  | 79 => ⟨S18432x28x32, .i32⟩
  | 80 => ⟨S18432x28x32, .i32⟩
  | 81 => ⟨S18432x28x32, .bf16⟩
  | 82 => ⟨S18432x28x2x16, .bf16⟩
  | 83 => ⟨S18432x28x2, .bf16⟩
  | 84 => ⟨S18432x28x2x1, .bf16⟩
  | 85 => ⟨S18432x28x2x16, .bf16⟩
  | 86 => ⟨S18432x28x2x16, .bf16⟩
  | 87 => ⟨S18432x28x32, .bf16⟩
  | 88 => ⟨S1x128x28x1x1x32, .bf16⟩
  | 89 => ⟨S1x128x28x32, .bf16⟩
  | 90 => ⟨S1x128x18432, .f32⟩
  | 91 => ⟨S_, .i32⟩
  | 92 => ⟨S18432x28x32, .i32⟩
  | 93 => ⟨S18432x28x32, .i32⟩
  | 94 => ⟨S_, .i32⟩
  | 95 => ⟨S18432x28x32, .i32⟩
  | 96 => ⟨S18432x28x32, .i32⟩
  | 97 => ⟨S_, .i32⟩
  | 98 => ⟨S18432x28x32, .i32⟩
  | 99 => ⟨S18432x28x32, .i32⟩
  | 100 => ⟨S_, .i32⟩
  | 101 => ⟨S18432x28x32, .i32⟩
  | 102 => ⟨S18432x28x32, .i32⟩
  | 103 => ⟨S_, .i32⟩
  | 104 => ⟨S18432x28x32, .i32⟩
  | 105 => ⟨S18432x28x32, .i32⟩
  | 106 => ⟨S18432x28x32, .i32⟩
  | 107 => ⟨S_, .i32⟩
  | 108 => ⟨S18432x28x32, .i32⟩
  | 109 => ⟨S18432x28x32, .i32⟩
  | 110 => ⟨S18432x28x32, .bf16⟩
  | 111 => ⟨S18432x28x2x16, .bf16⟩
  | 112 => ⟨S18432x28x2, .bf16⟩
  | 113 => ⟨S18432x28x2x1, .bf16⟩
  | 114 => ⟨S18432x28x2x16, .bf16⟩
  | 115 => ⟨S18432x28x2x16, .bf16⟩
  | 116 => ⟨S18432x28x32, .bf16⟩
  | 117 => ⟨S1x128x28x1x1x32, .bf16⟩
  | 118 => ⟨S1x128x28x32, .bf16⟩
  | 119 => ⟨S1x128x18432, .f32⟩
  | 120 => ⟨S1x128x18432, .f32⟩
  | 121 => ⟨S_, .i32⟩
  | 122 => ⟨S18432x28x32, .i32⟩
  | 123 => ⟨S18432x28x32, .i32⟩
  | 124 => ⟨S_, .i32⟩
  | 125 => ⟨S18432x28x32, .i32⟩
  | 126 => ⟨S18432x28x32, .i32⟩
  | 127 => ⟨S_, .i32⟩
  | _ => ⟨S1x128x7168, .bf16⟩

abbrev hbmTy0_1 (i : Nat) : BufTy := match i % 128 with
  | 0 => ⟨S18432x28x32, .i32⟩
  | 1 => ⟨S18432x28x32, .i32⟩
  | 2 => ⟨S_, .i32⟩
  | 3 => ⟨S18432x28x32, .i32⟩
  | 4 => ⟨S18432x28x32, .i32⟩
  | 5 => ⟨S_, .i32⟩
  | 6 => ⟨S18432x28x32, .i32⟩
  | 7 => ⟨S18432x28x32, .i32⟩
  | 8 => ⟨S18432x28x32, .i32⟩
  | 9 => ⟨S_, .i32⟩
  | 10 => ⟨S18432x28x32, .i32⟩
  | 11 => ⟨S18432x28x32, .i32⟩
  | 12 => ⟨S18432x28x32, .bf16⟩
  | 13 => ⟨S18432x28x2x16, .bf16⟩
  | 14 => ⟨S18432x28x2, .bf16⟩
  | 15 => ⟨S18432x28x2x1, .bf16⟩
  | 16 => ⟨S18432x28x2x16, .bf16⟩
  | 17 => ⟨S18432x28x2x16, .bf16⟩
  | 18 => ⟨S18432x28x32, .bf16⟩
  | 19 => ⟨S1x128x28x1x1x32, .bf16⟩
  | 20 => ⟨S1x128x28x32, .bf16⟩
  | 21 => ⟨S1x128x18432, .f32⟩
  | 22 => ⟨S1x128x18432, .f32⟩
  | 23 => ⟨S_, .i32⟩
  | 24 => ⟨S18432x28x32, .i32⟩
  | 25 => ⟨S18432x28x32, .i32⟩
  | 26 => ⟨S_, .i32⟩
  | 27 => ⟨S18432x28x32, .i32⟩
  | 28 => ⟨S18432x28x32, .i32⟩
  | 29 => ⟨S_, .i32⟩
  | 30 => ⟨S18432x28x32, .i32⟩
  | 31 => ⟨S18432x28x32, .i32⟩
  | 32 => ⟨S_, .i32⟩
  | 33 => ⟨S18432x28x32, .i32⟩
  | 34 => ⟨S18432x28x32, .i32⟩
  | 35 => ⟨S_, .i32⟩
  | 36 => ⟨S18432x28x32, .i32⟩
  | 37 => ⟨S18432x28x32, .i32⟩
  | 38 => ⟨S18432x28x32, .i32⟩
  | 39 => ⟨S_, .i32⟩
  | 40 => ⟨S18432x28x32, .i32⟩
  | 41 => ⟨S18432x28x32, .i32⟩
  | 42 => ⟨S18432x28x32, .bf16⟩
  | 43 => ⟨S18432x28x2x16, .bf16⟩
  | 44 => ⟨S18432x28x2, .bf16⟩
  | 45 => ⟨S18432x28x2x1, .bf16⟩
  | 46 => ⟨S18432x28x2x16, .bf16⟩
  | 47 => ⟨S18432x28x2x16, .bf16⟩
  | 48 => ⟨S18432x28x32, .bf16⟩
  | 49 => ⟨S1x128x28x1x1x32, .bf16⟩
  | 50 => ⟨S1x128x28x32, .bf16⟩
  | 51 => ⟨S1x128x18432, .f32⟩
  | 52 => ⟨S1x128x18432, .f32⟩
  | 53 => ⟨S18432x28x32, .i32⟩
  | 54 => ⟨S_, .i32⟩
  | 55 => ⟨S18432x28x32, .i32⟩
  | 56 => ⟨S18432x28x32, .i32⟩
  | 57 => ⟨S_, .i32⟩
  | 58 => ⟨S18432x28x32, .i32⟩
  | 59 => ⟨S18432x28x32, .i32⟩
  | 60 => ⟨S_, .i32⟩
  | 61 => ⟨S18432x28x32, .i32⟩
  | 62 => ⟨S18432x28x32, .i32⟩
  | 63 => ⟨S_, .i32⟩
  | 64 => ⟨S18432x28x32, .i32⟩
  | 65 => ⟨S18432x28x32, .i32⟩
  | 66 => ⟨S_, .i32⟩
  | 67 => ⟨S18432x28x32, .i32⟩
  | 68 => ⟨S18432x28x32, .i32⟩
  | 69 => ⟨S18432x28x32, .i32⟩
  | 70 => ⟨S_, .i32⟩
  | 71 => ⟨S18432x28x32, .i32⟩
  | 72 => ⟨S18432x28x32, .i32⟩
  | 73 => ⟨S18432x28x32, .bf16⟩
  | 74 => ⟨S18432x28x2x16, .bf16⟩
  | 75 => ⟨S18432x28x2, .bf16⟩
  | 76 => ⟨S18432x28x2x1, .bf16⟩
  | 77 => ⟨S18432x28x2x16, .bf16⟩
  | 78 => ⟨S18432x28x2x16, .bf16⟩
  | 79 => ⟨S18432x28x32, .bf16⟩
  | 80 => ⟨S1x128x28x1x1x32, .bf16⟩
  | 81 => ⟨S1x128x28x32, .bf16⟩
  | 82 => ⟨S1x128x18432, .f32⟩
  | 83 => ⟨S1x128x18432, .f32⟩
  | 84 => ⟨S_, .i32⟩
  | 85 => ⟨S18432x28x32, .i32⟩
  | 86 => ⟨S18432x28x32, .i32⟩
  | 87 => ⟨S_, .i32⟩
  | 88 => ⟨S18432x28x32, .i32⟩
  | 89 => ⟨S18432x28x32, .i32⟩
  | 90 => ⟨S_, .i32⟩
  | 91 => ⟨S18432x28x32, .i32⟩
  | 92 => ⟨S18432x28x32, .i32⟩
  | 93 => ⟨S_, .i32⟩
  | 94 => ⟨S18432x28x32, .i32⟩
  | 95 => ⟨S18432x28x32, .i32⟩
  | 96 => ⟨S_, .i32⟩
  | 97 => ⟨S18432x28x32, .i32⟩
  | 98 => ⟨S18432x28x32, .i32⟩
  | 99 => ⟨S18432x28x32, .i32⟩
  | 100 => ⟨S_, .i32⟩
  | 101 => ⟨S18432x28x32, .i32⟩
  | 102 => ⟨S18432x28x32, .i32⟩
  | 103 => ⟨S18432x28x32, .bf16⟩
  | 104 => ⟨S18432x28x2x16, .bf16⟩
  | 105 => ⟨S18432x28x2, .bf16⟩
  | 106 => ⟨S18432x28x2x1, .bf16⟩
  | 107 => ⟨S18432x28x2x16, .bf16⟩
  | 108 => ⟨S18432x28x2x16, .bf16⟩
  | 109 => ⟨S18432x28x32, .bf16⟩
  | 110 => ⟨S1x128x28x1x1x32, .bf16⟩
  | 111 => ⟨S1x128x28x32, .bf16⟩
  | 112 => ⟨S1x128x18432, .f32⟩
  | 113 => ⟨S1x128x18432, .f32⟩
  | 114 => ⟨S_, .i32⟩
  | 115 => ⟨S18432x28x32, .i32⟩
  | 116 => ⟨S18432x28x32, .i32⟩
  | 117 => ⟨S_, .i32⟩
  | 118 => ⟨S18432x28x32, .i32⟩
  | 119 => ⟨S18432x28x32, .i32⟩
  | 120 => ⟨S_, .i32⟩
  | 121 => ⟨S18432x28x32, .i32⟩
  | 122 => ⟨S18432x28x32, .i32⟩
  | 123 => ⟨S_, .i32⟩
  | 124 => ⟨S18432x28x32, .i32⟩
  | 125 => ⟨S18432x28x32, .i32⟩
  | 126 => ⟨S_, .i32⟩
  | 127 => ⟨S18432x28x32, .i32⟩
  | _ => ⟨S1x128x7168, .bf16⟩

abbrev hbmTy0_2 (i : Nat) : BufTy := match i % 128 with
  | 0 => ⟨S18432x28x32, .i32⟩
  | 1 => ⟨S18432x28x32, .i32⟩
  | 2 => ⟨S_, .i32⟩
  | 3 => ⟨S18432x28x32, .i32⟩
  | 4 => ⟨S18432x28x32, .i32⟩
  | 5 => ⟨S18432x28x32, .bf16⟩
  | 6 => ⟨S18432x28x2x16, .bf16⟩
  | 7 => ⟨S18432x28x2, .bf16⟩
  | 8 => ⟨S18432x28x2x1, .bf16⟩
  | 9 => ⟨S18432x28x2x16, .bf16⟩
  | 10 => ⟨S18432x28x2x16, .bf16⟩
  | 11 => ⟨S18432x28x32, .bf16⟩
  | 12 => ⟨S1x128x28x1x1x32, .bf16⟩
  | 13 => ⟨S1x128x28x32, .bf16⟩
  | 14 => ⟨S1x128x18432, .f32⟩
  | 15 => ⟨S1x128x18432, .f32⟩
  | 16 => ⟨S_, .i32⟩
  | 17 => ⟨S18432x28x32, .i32⟩
  | 18 => ⟨S18432x28x32, .i32⟩
  | 19 => ⟨S_, .i32⟩
  | 20 => ⟨S18432x28x32, .i32⟩
  | 21 => ⟨S18432x28x32, .i32⟩
  | 22 => ⟨S_, .i32⟩
  | 23 => ⟨S18432x28x32, .i32⟩
  | 24 => ⟨S18432x28x32, .i32⟩
  | 25 => ⟨S_, .i32⟩
  | 26 => ⟨S18432x28x32, .i32⟩
  | 27 => ⟨S18432x28x32, .i32⟩
  | 28 => ⟨S_, .i32⟩
  | 29 => ⟨S18432x28x32, .i32⟩
  | 30 => ⟨S18432x28x32, .i32⟩
  | 31 => ⟨S18432x28x32, .i32⟩
  | 32 => ⟨S_, .i32⟩
  | 33 => ⟨S18432x28x32, .i32⟩
  | 34 => ⟨S18432x28x32, .i32⟩
  | 35 => ⟨S18432x28x32, .bf16⟩
  | 36 => ⟨S18432x28x2x16, .bf16⟩
  | 37 => ⟨S18432x28x2, .bf16⟩
  | 38 => ⟨S18432x28x2x1, .bf16⟩
  | 39 => ⟨S18432x28x2x16, .bf16⟩
  | 40 => ⟨S18432x28x2x16, .bf16⟩
  | 41 => ⟨S18432x28x32, .bf16⟩
  | 42 => ⟨S1x128x28x1x1x32, .bf16⟩
  | 43 => ⟨S1x128x28x32, .bf16⟩
  | 44 => ⟨S1x128x18432, .f32⟩
  | 45 => ⟨S1x128x18432, .f32⟩
  | 46 => ⟨S1x128x18432, .bf16⟩
  | _ => ⟨S1x128x7168, .bf16⟩

abbrev hbmTy (i : Nat) : BufTy := match i / 128 with
  | 0 => hbmTy0_0 i
  | 1 => hbmTy0_1 i
  | 2 => hbmTy0_2 i
  | _ => ⟨S1x128x7168, .bf16⟩

abbrev bufTy : (tb : Table) → Fin (tcTables nBuf tb) → BufTy
  | .hbm, ⟨i, _⟩ => hbmTy i
  | .local _ .vmem, ⟨0, _⟩ => ⟨S18432x28, .i16⟩
  | .local _ .vmem, ⟨1, _⟩ => ⟨S18432x28, .f32⟩
  | _, _ => ⟨S1x128x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_c_7 : Ref sig .tc := ⟨.hbm, 34, rfl⟩
abbrev main_v21 : Ref sig .tc := ⟨.hbm, 35, rfl⟩
abbrev main_v22 : Ref sig .tc := ⟨.hbm, 36, rfl⟩
abbrev main_c_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_c_12 : Ref sig .tc := ⟨.hbm, 65, rfl⟩
abbrev main_v47 : Ref sig .tc := ⟨.hbm, 66, rfl⟩
abbrev main_v48 : Ref sig .tc := ⟨.hbm, 67, rfl⟩
abbrev main_c_13 : Ref sig .tc := ⟨.hbm, 68, rfl⟩
abbrev main_v49 : Ref sig .tc := ⟨.hbm, 69, rfl⟩
abbrev main_v50 : Ref sig .tc := ⟨.hbm, 70, rfl⟩
abbrev main_c_14 : Ref sig .tc := ⟨.hbm, 71, rfl⟩
abbrev main_v51 : Ref sig .tc := ⟨.hbm, 72, rfl⟩
abbrev main_v52 : Ref sig .tc := ⟨.hbm, 73, rfl⟩
abbrev main_c_15 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_17 : Ref sig .tc := ⟨.hbm, 91, rfl⟩
abbrev main_v68 : Ref sig .tc := ⟨.hbm, 92, rfl⟩
abbrev main_v69 : Ref sig .tc := ⟨.hbm, 93, rfl⟩
abbrev main_c_18 : Ref sig .tc := ⟨.hbm, 94, rfl⟩
abbrev main_v70 : Ref sig .tc := ⟨.hbm, 95, rfl⟩
abbrev main_v71 : Ref sig .tc := ⟨.hbm, 96, rfl⟩
abbrev main_c_19 : Ref sig .tc := ⟨.hbm, 97, rfl⟩
abbrev main_v72 : Ref sig .tc := ⟨.hbm, 98, rfl⟩
abbrev main_v73 : Ref sig .tc := ⟨.hbm, 99, rfl⟩
abbrev main_c_20 : Ref sig .tc := ⟨.hbm, 100, rfl⟩
abbrev main_v74 : Ref sig .tc := ⟨.hbm, 101, rfl⟩
abbrev main_v75 : Ref sig .tc := ⟨.hbm, 102, rfl⟩
abbrev main_c_21 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_22 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_23 : Ref sig .tc := ⟨.hbm, 121, rfl⟩
abbrev main_v92 : Ref sig .tc := ⟨.hbm, 122, rfl⟩
abbrev main_v93 : Ref sig .tc := ⟨.hbm, 123, rfl⟩
abbrev main_c_24 : Ref sig .tc := ⟨.hbm, 124, rfl⟩
abbrev main_v94 : Ref sig .tc := ⟨.hbm, 125, rfl⟩
abbrev main_v95 : Ref sig .tc := ⟨.hbm, 126, rfl⟩
abbrev main_c_25 : Ref sig .tc := ⟨.hbm, 127, rfl⟩
abbrev main_v96 : Ref sig .tc := ⟨.hbm, 128, rfl⟩
abbrev main_v97 : Ref sig .tc := ⟨.hbm, 129, rfl⟩
abbrev main_c_26 : Ref sig .tc := ⟨.hbm, 130, rfl⟩
abbrev main_v98 : Ref sig .tc := ⟨.hbm, 131, rfl⟩
abbrev main_v99 : Ref sig .tc := ⟨.hbm, 132, rfl⟩
abbrev main_c_27 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_28 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_c_29 : Ref sig .tc := ⟨.hbm, 151, rfl⟩
abbrev main_v116 : Ref sig .tc := ⟨.hbm, 152, rfl⟩
abbrev main_v117 : Ref sig .tc := ⟨.hbm, 153, rfl⟩
abbrev main_c_30 : Ref sig .tc := ⟨.hbm, 154, rfl⟩
abbrev main_v118 : Ref sig .tc := ⟨.hbm, 155, rfl⟩
abbrev main_v119 : Ref sig .tc := ⟨.hbm, 156, rfl⟩
abbrev main_c_31 : Ref sig .tc := ⟨.hbm, 157, rfl⟩
abbrev main_v120 : Ref sig .tc := ⟨.hbm, 158, rfl⟩
abbrev main_v121 : Ref sig .tc := ⟨.hbm, 159, rfl⟩
abbrev main_c_32 : Ref sig .tc := ⟨.hbm, 160, rfl⟩
abbrev main_v122 : Ref sig .tc := ⟨.hbm, 161, rfl⟩
abbrev main_v123 : Ref sig .tc := ⟨.hbm, 162, rfl⟩
abbrev main_c_33 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_c_34 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_c_35 : Ref sig .tc := ⟨.hbm, 182, rfl⟩
abbrev main_v141 : Ref sig .tc := ⟨.hbm, 183, rfl⟩
abbrev main_v142 : Ref sig .tc := ⟨.hbm, 184, rfl⟩
abbrev main_c_36 : Ref sig .tc := ⟨.hbm, 185, rfl⟩
abbrev main_v143 : Ref sig .tc := ⟨.hbm, 186, rfl⟩
abbrev main_v144 : Ref sig .tc := ⟨.hbm, 187, rfl⟩
abbrev main_c_37 : Ref sig .tc := ⟨.hbm, 188, rfl⟩
abbrev main_v145 : Ref sig .tc := ⟨.hbm, 189, rfl⟩
abbrev main_v146 : Ref sig .tc := ⟨.hbm, 190, rfl⟩
abbrev main_c_38 : Ref sig .tc := ⟨.hbm, 191, rfl⟩
abbrev main_v147 : Ref sig .tc := ⟨.hbm, 192, rfl⟩
abbrev main_v148 : Ref sig .tc := ⟨.hbm, 193, rfl⟩
abbrev main_c_39 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_c_40 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_c_41 : Ref sig .tc := ⟨.hbm, 212, rfl⟩
abbrev main_v165 : Ref sig .tc := ⟨.hbm, 213, rfl⟩
abbrev main_v166 : Ref sig .tc := ⟨.hbm, 214, rfl⟩
abbrev main_c_42 : Ref sig .tc := ⟨.hbm, 215, rfl⟩
abbrev main_v167 : Ref sig .tc := ⟨.hbm, 216, rfl⟩
abbrev main_v168 : Ref sig .tc := ⟨.hbm, 217, rfl⟩
abbrev main_c_43 : Ref sig .tc := ⟨.hbm, 218, rfl⟩
abbrev main_v169 : Ref sig .tc := ⟨.hbm, 219, rfl⟩
abbrev main_v170 : Ref sig .tc := ⟨.hbm, 220, rfl⟩
abbrev main_c_44 : Ref sig .tc := ⟨.hbm, 221, rfl⟩
abbrev main_v171 : Ref sig .tc := ⟨.hbm, 222, rfl⟩
abbrev main_v172 : Ref sig .tc := ⟨.hbm, 223, rfl⟩
abbrev main_c_45 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_c_46 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_c_47 : Ref sig .tc := ⟨.hbm, 242, rfl⟩
abbrev main_v189 : Ref sig .tc := ⟨.hbm, 243, rfl⟩
abbrev main_v190 : Ref sig .tc := ⟨.hbm, 244, rfl⟩
abbrev main_c_48 : Ref sig .tc := ⟨.hbm, 245, rfl⟩
abbrev main_v191 : Ref sig .tc := ⟨.hbm, 246, rfl⟩
abbrev main_v192 : Ref sig .tc := ⟨.hbm, 247, rfl⟩
abbrev main_c_49 : Ref sig .tc := ⟨.hbm, 248, rfl⟩
abbrev main_v193 : Ref sig .tc := ⟨.hbm, 249, rfl⟩
abbrev main_v194 : Ref sig .tc := ⟨.hbm, 250, rfl⟩
abbrev main_c_50 : Ref sig .tc := ⟨.hbm, 251, rfl⟩
abbrev main_v195 : Ref sig .tc := ⟨.hbm, 252, rfl⟩
abbrev main_v196 : Ref sig .tc := ⟨.hbm, 253, rfl⟩
abbrev main_c_51 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_c_52 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_c_53 : Ref sig .tc := ⟨.hbm, 272, rfl⟩
abbrev main_v213 : Ref sig .tc := ⟨.hbm, 273, rfl⟩
abbrev main_v214 : Ref sig .tc := ⟨.hbm, 274, rfl⟩
abbrev main_c_54 : Ref sig .tc := ⟨.hbm, 275, rfl⟩
abbrev main_v215 : Ref sig .tc := ⟨.hbm, 276, rfl⟩
abbrev main_v216 : Ref sig .tc := ⟨.hbm, 277, rfl⟩
abbrev main_c_55 : Ref sig .tc := ⟨.hbm, 278, rfl⟩
abbrev main_v217 : Ref sig .tc := ⟨.hbm, 279, rfl⟩
abbrev main_v218 : Ref sig .tc := ⟨.hbm, 280, rfl⟩
abbrev main_c_56 : Ref sig .tc := ⟨.hbm, 281, rfl⟩
abbrev main_v219 : Ref sig .tc := ⟨.hbm, 282, rfl⟩
abbrev main_v220 : Ref sig .tc := ⟨.hbm, 283, rfl⟩
abbrev main_c_57 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_c_58 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S18432x28 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.PK.Shape.lean ====
module

public import proofs.«01_k».proof.Proof.Gen.Kernel
public import Idealize.ShloMosaic.Lib.Tactic

/-! The kernel's body, written once as a structured program: the order prologue of the first grid point, the scale
words, one block step for each block of the reduction and each half of the tile, and the stores. -/

@[expose] public section

set_option maxRecDepth 16384

noncomputable section

namespace Cert.Proof.PK

open Idealize.ShloMosaic Idealize.ShloMosaic.TcCoe
open Idealize.SL Idealize.SL.Sem
open Cert.Kernel Cert.Kernel.Facts₀ Cert.Kernel.Facts

variable {F : FTy → Type} [BitOps F]

abbrev Pr (α : Type) : Type _ := Prog (TpuEff nD τ sig (Elt F) Λ₀ .tc) α

/-! ## Where the steps read and write -/

theorem inbX (b : Fin 28) : ∀ a, (![0, 256 * b.val] : Fin 2 → Nat) a + S128x256.size a ≤ S128x7168.size a := by
  revert b; decide
theorem packX (b : Fin 28) : (Rect.unit (s := S128x7168) ![0, 256 * b.val] S128x256.size (inbX b)).PackedRows (EltTy.packing .bf16) := by
  revert b; decide
theorem inbQ (b : Fin 28) (m : Fin 2) : ∀ a, (![b.val, 0, 256 * m.val] : Fin 3 → Nat) a + S1x64x256.size a ≤ S28x64x512.size a := by
  revert b m; decide
theorem inbH (b : Fin 28) (m : Fin 2) : ∀ a, (![b.val, 0, 256 * m.val] : Fin 3 → Nat) a + S1x32x256.size a ≤ S28x32x512.size a := by
  revert b m; decide
theorem inbO (m : Fin 2) : ∀ a, (![0, 256 * m.val] : Fin 2 → Nat) a + S128x256.size a ≤ S128x512.size a := by
  revert m; decide
theorem packO (m : Fin 2) : (Rect.unit (s := S128x512) ![0, 256 * m.val] S128x256.size (inbO m)).PackedRows (EltTy.packing .bf16) := by
  revert m; decide
theorem inbS (r : Fin 12) : ∀ a, (![r.val, 0, 0] : Fin 3 → Nat) a + S1x28x512.size a ≤ S12x28x512.size a := by
  revert r; decide

theorem inbG (b : Fin 28) (m : Fin 2) : ∀ a, (![0, b.val, 256 * m.val] : Fin 3 → Nat) a + S8x1x256.size a ≤ S8x32x512.size a := by
  revert b m; decide
theorem inbW (p : Fin 8) : ∀ a, (![p.val, 0, 0] : Fin 3 → Nat) a + S1x28x512.size a ≤ S8x32x512.size a := by
  revert p; decide

/-! ## The values the body computes -/

/-- The matrix of the column order: one where row and column name the same activation, zero elsewhere. -/
def ordW : FVec F S256x256 .bf16 :=
  have v8365 : IVec S256x256 32 := iota .tc S256x256 32 [0] iota_S256x256_d0_w32
  have v8366 : IVec S256x256 32 := iota .tc S256x256 32 [1] iota_S256x256_d1_w32
  let c192_i32 : BitVec 32 := 192#32
  have v8367 : IVec S256x256 32 := broadcast S256x256 c192_i32
  have v8368 : IVec S256x256 32 := andi v8366 v8367
  let c128_i32 : BitVec 32 := 128#32
  have v8369 : IVec S256x256 32 := broadcast S256x256 c128_i32
  have v8370 : IVec S256x256 32 := divsi v8368 v8369
  let c0_i32_1892 : BitVec 32 := 0#32
  have v8371 : IVec S256x256 32 := broadcast S256x256 c0_i32_1892
  have v8372 : IVec S256x256 1 := cmpi .sgt v8368 v8371
  have v8373 : IVec S256x256 32 := extui 32 v8372 natLt_1_32
  let c0_i32_1893 : BitVec 32 := 0#32
  have v8374 : IVec S256x256 32 := broadcast S256x256 c0_i32_1893
  have v8375 : IVec S256x256 1 := cmpi .slt v8368 v8374
  have v8376 : IVec S256x256 32 := extui 32 v8375 natLt_1_32
  have v8377 : IVec S256x256 32 := subi v8373 v8376
  let c0_i32_1894 : BitVec 32 := 0#32
  let v8378 : BitVec 1 := Scalar.cmpi .sgt c128_i32 c0_i32_1894
  let v8379 : BitVec 32 := Scalar.extui v8378
  let c0_i32_1895 : BitVec 32 := 0#32
  let v8380 : BitVec 1 := Scalar.cmpi .slt c128_i32 c0_i32_1895
  let v8381 : BitVec 32 := Scalar.extui v8380
  let v8382 : BitVec 32 := Scalar.subi v8379 v8381
  have v8383 : IVec S256x256 32 := broadcast S256x256 v8382
  have v8384 : IVec S256x256 1 := cmpi .ne v8377 v8383
  have v8385 : IVec S256x256 32 := broadcast S256x256 c128_i32
  have v8386 : IVec S256x256 32 := remsi v8368 v8385
  let c0_i32_1896 : BitVec 32 := 0#32
  have v8387 : IVec S256x256 32 := broadcast S256x256 c0_i32_1896
  have v8388 : IVec S256x256 1 := cmpi .ne v8386 v8387
  have v8389 : IVec S256x256 1 := andi v8384 v8388
  let c1_i32_1897 : BitVec 32 := 1#32
  have v8390 : IVec S256x256 32 := broadcast S256x256 c1_i32_1897
  have v8391 : IVec S256x256 32 := subi v8370 v8390
  have v8392 : IVec S256x256 32 := select v8389 v8391 v8370
  let c128_i32_1898 : BitVec 32 := 128#32
  have v8393 : IVec S256x256 32 := broadcast S256x256 c128_i32_1898
  have v8394 : IVec S256x256 32 := muli v8392 v8393
  let c1_i32_1899 : BitVec 32 := 1#32
  have v8395 : IVec S256x256 32 := broadcast S256x256 c1_i32_1899
  have v8396 : IVec S256x256 32 := andi v8366 v8395
  let c64_i32 : BitVec 32 := 64#32
  have v8397 : IVec S256x256 32 := broadcast S256x256 c64_i32
  have v8398 : IVec S256x256 32 := muli v8396 v8397
  have v8399 : IVec S256x256 32 := addi v8394 v8398
  let c64_i32_1900 : BitVec 32 := 64#32
  have v8400 : IVec S256x256 32 := broadcast S256x256 c64_i32_1900
  have v8401 : IVec S256x256 32 := andi v8366 v8400
  let c64_i32_1901 : BitVec 32 := 64#32
  have v8402 : IVec S256x256 32 := broadcast S256x256 c64_i32_1901
  have v8403 : IVec S256x256 32 := divsi v8401 v8402
  let c0_i32_1902 : BitVec 32 := 0#32
  have v8404 : IVec S256x256 32 := broadcast S256x256 c0_i32_1902
  have v8405 : IVec S256x256 1 := cmpi .sgt v8401 v8404
  have v8406 : IVec S256x256 32 := extui 32 v8405 natLt_1_32
  let c0_i32_1903 : BitVec 32 := 0#32
  have v8407 : IVec S256x256 32 := broadcast S256x256 c0_i32_1903
  have v8408 : IVec S256x256 1 := cmpi .slt v8401 v8407
  have v8409 : IVec S256x256 32 := extui 32 v8408 natLt_1_32
  have v8410 : IVec S256x256 32 := subi v8406 v8409
  let c0_i32_1904 : BitVec 32 := 0#32
  let v8411 : BitVec 1 := Scalar.cmpi .sgt c64_i32_1901 c0_i32_1904
  let v8412 : BitVec 32 := Scalar.extui v8411
  let c0_i32_1905 : BitVec 32 := 0#32
  let v8413 : BitVec 1 := Scalar.cmpi .slt c64_i32_1901 c0_i32_1905
  let v8414 : BitVec 32 := Scalar.extui v8413
  let v8415 : BitVec 32 := Scalar.subi v8412 v8414
  have v8416 : IVec S256x256 32 := broadcast S256x256 v8415
  have v8417 : IVec S256x256 1 := cmpi .ne v8410 v8416
  have v8418 : IVec S256x256 32 := broadcast S256x256 c64_i32_1901
  have v8419 : IVec S256x256 32 := remsi v8401 v8418
  let c0_i32_1906 : BitVec 32 := 0#32
  have v8420 : IVec S256x256 32 := broadcast S256x256 c0_i32_1906
  have v8421 : IVec S256x256 1 := cmpi .ne v8419 v8420
  have v8422 : IVec S256x256 1 := andi v8417 v8421
  let c1_i32_1907 : BitVec 32 := 1#32
  have v8423 : IVec S256x256 32 := broadcast S256x256 c1_i32_1907
  have v8424 : IVec S256x256 32 := subi v8403 v8423
  have v8425 : IVec S256x256 32 := select v8422 v8424 v8403
  let c32_i32_1908 : BitVec 32 := 32#32
  have v8426 : IVec S256x256 32 := broadcast S256x256 c32_i32_1908
  have v8427 : IVec S256x256 32 := muli v8425 v8426
  have v8428 : IVec S256x256 32 := addi v8399 v8427
  let c63_i32 : BitVec 32 := 63#32
  have v8429 : IVec S256x256 32 := broadcast S256x256 c63_i32
  have v8430 : IVec S256x256 32 := andi v8366 v8429
  let c2_i32_1909 : BitVec 32 := 2#32
  have v8431 : IVec S256x256 32 := broadcast S256x256 c2_i32_1909
  have v8432 : IVec S256x256 32 := divsi v8430 v8431
  let c0_i32_1910 : BitVec 32 := 0#32
  have v8433 : IVec S256x256 32 := broadcast S256x256 c0_i32_1910
  have v8434 : IVec S256x256 1 := cmpi .sgt v8430 v8433
  have v8435 : IVec S256x256 32 := extui 32 v8434 natLt_1_32
  let c0_i32_1911 : BitVec 32 := 0#32
  have v8436 : IVec S256x256 32 := broadcast S256x256 c0_i32_1911
  have v8437 : IVec S256x256 1 := cmpi .slt v8430 v8436
  have v8438 : IVec S256x256 32 := extui 32 v8437 natLt_1_32
  have v8439 : IVec S256x256 32 := subi v8435 v8438
  let c0_i32_1912 : BitVec 32 := 0#32
  let v8440 : BitVec 1 := Scalar.cmpi .sgt c2_i32_1909 c0_i32_1912
  let v8441 : BitVec 32 := Scalar.extui v8440
  let c0_i32_1913 : BitVec 32 := 0#32
  let v8442 : BitVec 1 := Scalar.cmpi .slt c2_i32_1909 c0_i32_1913
  let v8443 : BitVec 32 := Scalar.extui v8442
  let v8444 : BitVec 32 := Scalar.subi v8441 v8443
  have v8445 : IVec S256x256 32 := broadcast S256x256 v8444
  have v8446 : IVec S256x256 1 := cmpi .ne v8439 v8445
  have v8447 : IVec S256x256 32 := broadcast S256x256 c2_i32_1909
  have v8448 : IVec S256x256 32 := remsi v8430 v8447
  let c0_i32_1914 : BitVec 32 := 0#32
  have v8449 : IVec S256x256 32 := broadcast S256x256 c0_i32_1914
  have v8450 : IVec S256x256 1 := cmpi .ne v8448 v8449
  have v8451 : IVec S256x256 1 := andi v8446 v8450
  let c1_i32_1915 : BitVec 32 := 1#32
  have v8452 : IVec S256x256 32 := broadcast S256x256 c1_i32_1915
  have v8453 : IVec S256x256 32 := subi v8432 v8452
  have v8454 : IVec S256x256 32 := select v8451 v8453 v8432
  have v8455 : IVec S256x256 32 := addi v8428 v8454
  have v8456 : IVec S256x256 1 := cmpi .eq v8365 v8455
  have cst_1916 : F .f32 := Scalar.ofBits .f32 0x3F800000#32
  have cst_1917 : F .f32 := Scalar.ofBits .f32 0x00000000#32
  have v8457 : FVec F S256x256 .f32 := broadcast S256x256 cst_1916
  have v8458 : FVec F S256x256 .f32 := broadcast S256x256 cst_1917
  have v8459 : FVec F S256x256 .f32 := select v8456 v8457 v8458
  have v8460 : FVec F S256x256 .bf16 := truncf .bf16 v8459 bitsLt_bf16_f32
  v8460

/-- The half-precision scale of each row, as single precision, from its bit pattern. -/
def half (v3 : Vec F S28x512 .i16) : FVec F S28x512 .f32 :=
  have v4 : IVec S28x512 16 := shapeCast S28x512 v3 shapeCasts_S28x512_S28x512
  have v5 : IVec S28x512 32 := extsi 32 v4 natLt_16_32
  let c32767_i32 : BitVec 32 := 32767#32
  have v6 : IVec S28x512 32 := broadcast S28x512 c32767_i32
  have v7 : IVec S28x512 32 := andi v5 v6
  let c32768_i32 : BitVec 32 := 32768#32
  have v8 : IVec S28x512 32 := broadcast S28x512 c32768_i32
  have v9 : IVec S28x512 32 := andi v5 v8
  let c16_i32 : BitVec 32 := 16#32
  have v10 : IVec S28x512 32 := broadcast S28x512 c16_i32
  have v11 : IVec S28x512 32 := shli v9 v10
  let c13_i32 : BitVec 32 := 13#32
  have v12 : IVec S28x512 32 := broadcast S28x512 c13_i32
  have v13 : IVec S28x512 32 := shli v7 v12
  let c931135488_i32 : BitVec 32 := 931135488#32
  have v14 : IVec S28x512 32 := broadcast S28x512 c931135488_i32
  have v15 : IVec S28x512 32 := addi v13 v14
  have v16 : IVec S28x512 32 := ori v15 v11
  have v17 : FVec F S28x512 .f32 := bitcastToFloat .f32 v16
  let c13_i32_2 : BitVec 32 := 13#32
  have v18 : IVec S28x512 32 := broadcast S28x512 c13_i32_2
  have v19 : IVec S28x512 32 := shli v7 v18
  let c2139095040_i32 : BitVec 32 := 2139095040#32
  have v20 : IVec S28x512 32 := broadcast S28x512 c2139095040_i32
  have v21 : IVec S28x512 32 := ori v19 v20
  have v22 : IVec S28x512 32 := ori v21 v11
  have v23 : FVec F S28x512 .f32 := bitcastToFloat .f32 v22
  have v24 : FVec F S28x512 .f32 := sitofp .f32 v7
  have cst : F .f32 := Scalar.ofBits .f32 0x33000000#32
  have v25 : FVec F S28x512 .f32 := broadcast S28x512 cst
  have v26 : FVec F S28x512 .f32 := mulf v24 v25
  let c0_i32_3 : BitVec 32 := 0#32
  have v27 : IVec S28x512 32 := broadcast S28x512 c0_i32_3
  have v28 : IVec S28x512 1 := cmpi .ne v11 v27
  have cst_4 : F .f32 := Scalar.ofBits .f32 0x00000000#32
  have v29 : FVec F S28x512 .f32 := broadcast S28x512 cst_4
  have v30 : FVec F S28x512 .f32 := subf v29 v26
  have v31 : FVec F S28x512 .f32 := select v28 v30 v26
  let c1024_i32 : BitVec 32 := 1024#32
  have v32 : IVec S28x512 32 := broadcast S28x512 c1024_i32
  have v33 : IVec S28x512 1 := cmpi .slt v7 v32
  let c31744_i32 : BitVec 32 := 31744#32
  have v34 : IVec S28x512 32 := broadcast S28x512 c31744_i32
  have v35 : IVec S28x512 1 := cmpi .slt v7 v34
  have v36 : FVec F S28x512 .f32 := select v35 v17 v23
  have v37 : FVec F S28x512 .f32 := select v33 v31 v36
  v37

/-- One plane of the packed scales, each entry widened. -/
def plane (r : Vec F S1x28x512 .i8) : IVec S28x512 32 :=
  extui 32 (shapeCast S28x512 r shapeCasts_S1x28x512_S28x512) natLt_8_32

/-- One group's scale: the six bits taken from the low plane and the high plane, less 32, times the row's scale. -/
def grp (v37 : FVec F S28x512 .f32) (lo hi : Vec F S1x28x512 .i8) (sl sh : BitVec 32) : FVec F S28x512 .f32 :=
  mulf v37 (sitofp .f32 (subi
    (ori (andi (shrsi (plane lo) (broadcast S28x512 sl)) (broadcast S28x512 15#32))
      (shli (andi (shrsi (plane hi) (broadcast S28x512 sh)) (broadcast S28x512 3#32)) (broadcast S28x512 4#32)))
    (broadcast S28x512 32#32)))

/-- Two groups' scales as one word each. -/
def word (x y : FVec F S28x512 .f32) : Vec F S1x28x512 .i32 :=
  shapeCast S1x28x512 (packElementwise x y) shapeCasts_S28x512_S1x28x512

/-- The four words of each row's codes: from the low bits and the high bit of each weight, its four-bit code. -/
def codes (v638 : Vec F S1x64x256 .i8) (v641 : Vec F S1x32x256 .i8) : Fin 4 → IVec S8x256 32 :=
  have v639 : IVec S64x256 8 := shapeCast S64x256 v638 shapeCasts_S1x64x256_S64x256
  have v640 : IVec S16x256 32 := bitcast S16x256 32 v639 bitcasts_S64x256_w8_S16x256_w32
  have v642 : IVec S32x256 8 := shapeCast S32x256 v641 shapeCasts_S1x32x256_S32x256
  have v643 : IVec S8x256 32 := bitcast S8x256 32 v642 bitcasts_S32x256_w8_S8x256_w32
  have v644 : IVec S8x256 32 := extractStridedSlice S8x256 ![0, 0] v640 slices_S16x256_o0_0_S8x256
  have v645 : IVec S8x256 32 := extractStridedSlice S8x256 ![8, 0] v640 slices_S16x256_o8_0_S8x256
  let c2_i32_211 : BitVec 32 := 2#32
  have v646 : IVec S8x256 32 := broadcast S8x256 c2_i32_211
  have v647 : IVec S8x256 32 := shrui v643 v646
  have v648 : IVec S8x256 32 := xori v647 v643
  let c202116108_i32_212 : BitVec 32 := 202116108#32
  have v649 : IVec S8x256 32 := broadcast S8x256 c202116108_i32_212
  have v650 : IVec S8x256 32 := andi v648 v649
  have v651 : IVec S8x256 32 := xori v643 v650
  let c2_i32_213 : BitVec 32 := 2#32
  have v652 : IVec S8x256 32 := broadcast S8x256 c2_i32_213
  have v653 : IVec S8x256 32 := shli v650 v652
  have v654 : IVec S8x256 32 := xori v651 v653
  have cst_214 : IVec S8x256 32 := constantI S8x256 32 4294967295#32
  have v655 : IVec S8x256 32 := xori v654 cst_214
  let c2_i32_215 : BitVec 32 := 2#32
  have v656 : IVec S8x256 32 := broadcast S8x256 c2_i32_215
  have v657 : IVec S8x256 32 := shli v655 v656
  let c858993459_i32_216 : BitVec 32 := 858993459#32
  have v658 : IVec S8x256 32 := broadcast S8x256 c858993459_i32_216
  have v659 : IVec S8x256 32 := andi v644 v658
  let c1145324612_i32_217 : BitVec 32 := 1145324612#32
  have v660 : IVec S8x256 32 := broadcast S8x256 c1145324612_i32_217
  have v661 : IVec S8x256 32 := andi v657 v660
  have v662 : IVec S8x256 32 := ori v659 v661
  let c1_i32_218 : BitVec 32 := 1#32
  have v663 : IVec S8x256 32 := broadcast S8x256 c1_i32_218
  have v664 : IVec S8x256 32 := shli v662 v663
  let c1_i32_219 : BitVec 32 := 1#32
  have v665 : IVec S8x256 32 := broadcast S8x256 c1_i32_219
  have v666 : IVec S8x256 32 := shrui v644 v665
  let c1717986918_i32_220 : BitVec 32 := 1717986918#32
  have v667 : IVec S8x256 32 := broadcast S8x256 c1717986918_i32_220
  have v668 : IVec S8x256 32 := andi v666 v667
  let c_m2004318072_i32_221 : BitVec 32 := 2290649224#32
  have v669 : IVec S8x256 32 := broadcast S8x256 c_m2004318072_i32_221
  have v670 : IVec S8x256 32 := andi v657 v669
  have v671 : IVec S8x256 32 := ori v668 v670
  let c858993459_i32_222 : BitVec 32 := 858993459#32
  have v672 : IVec S8x256 32 := broadcast S8x256 c858993459_i32_222
  have v673 : IVec S8x256 32 := andi v645 v672
  let c1145324612_i32_223 : BitVec 32 := 1145324612#32
  have v674 : IVec S8x256 32 := broadcast S8x256 c1145324612_i32_223
  have v675 : IVec S8x256 32 := andi v655 v674
  have v676 : IVec S8x256 32 := ori v673 v675
  let c1_i32_224 : BitVec 32 := 1#32
  have v677 : IVec S8x256 32 := broadcast S8x256 c1_i32_224
  have v678 : IVec S8x256 32 := shli v676 v677
  let c1_i32_225 : BitVec 32 := 1#32
  have v679 : IVec S8x256 32 := broadcast S8x256 c1_i32_225
  have v680 : IVec S8x256 32 := shrui v645 v679
  let c1717986918_i32_226 : BitVec 32 := 1717986918#32
  have v681 : IVec S8x256 32 := broadcast S8x256 c1717986918_i32_226
  have v682 : IVec S8x256 32 := andi v680 v681
  let c_m2004318072_i32_227 : BitVec 32 := 2290649224#32
  have v683 : IVec S8x256 32 := broadcast S8x256 c_m2004318072_i32_227
  have v684 : IVec S8x256 32 := andi v655 v683
  have v685 : IVec S8x256 32 := ori v682 v684
  ![v664, v671, v678, v685]

/-- The left shifts that bring the eight nibbles of a word to its top. -/
def left : IVec S8x8x256 32 :=
  have v346 : IVec S8x8x256 32 := iota .tc S8x8x256 32 [1] iota_S8x8x256_d1_w32
  let c4_i32_144 : BitVec 32 := 4#32
  have v347 : IVec S8x8x256 32 := broadcast S8x8x256 c4_i32_144
  have v348 : IVec S8x8x256 32 := muli v347 v346
  let c28_i32 : BitVec 32 := 28#32
  have v349 : IVec S8x8x256 32 := broadcast S8x8x256 c28_i32
  have v350 : IVec S8x8x256 32 := subi v349 v348
  v350

/-- The eight signed nibbles of each word, as numbers. -/
def nib (c : IVec S8x256 32) : FVec F S64x256 .bf16 :=
  sitofp .bf16 (shapeCast S64x256 (shrsi (shli (broadcastTo S8x8x256 (shapeCast S8x1x256 c shapeCasts_S8x256_S8x1x256) broadcasts_S8x1x256_S8x8x256) left)
    (broadcast S8x8x256 28#32)) shapeCasts_S8x8x256_S64x256)

/-- A row of words eight times over. -/
def rep8 (v : IVec S1x256 32) : IVec S8x256 32 :=
  concatenate S8x256 0 [⟨S1x256, v⟩, ⟨S1x256, v⟩, ⟨S1x256, v⟩, ⟨S1x256, v⟩, ⟨S1x256, v⟩, ⟨S1x256, v⟩, ⟨S1x256, v⟩, ⟨S1x256, v⟩] concatenates_S1x256_S1x256_S1x256_S1x256_S1x256_S1x256_S1x256_S1x256_S8x256_d0

/-- The scales of sixteen rows: the two scales of one plane's words, by turns. -/
def scl (raw : Vec F S8x1x256 .i32) (o : Fin 3 → Nat) (h : S8x1x256.Slices o S1x1x256) : FVec F S16x256 .bf16 :=
  bitcastToFloat .bf16 (bitcast S16x256 16 (rep8 (shapeCast S1x256 (extractStridedSlice S1x1x256 o raw h) shapeCasts_S1x1x256_S1x256)) bitcasts_S8x256_w32_S16x256_w16)

/-- Sixteen rows of the weights: nibbles times scales. -/
def rows16 (n : FVec F S64x256 .bf16) (s : FVec F S16x256 .bf16) (o : Fin 2 → Nat) (h : S64x256.Slices o S16x256) : FVec F S16x256 .bf16 :=
  mulf (extractStridedSlice S16x256 o n h) s

/-- The weights of one block and one half of the tile. -/
def wfn (raw : Vec F S8x1x256 .i32) (q : Vec F S1x64x256 .i8) (h : Vec F S1x32x256 .i8) : FVec F S256x256 .bf16 :=
  concatenate S256x256 0 [⟨S16x256, rows16 (nib (codes q h 0)) (scl raw ![0, 0, 0] slices_S8x1x256_o0_0_0_S1x1x256) ![0, 0] slices_S64x256_o0_0_S16x256⟩,
    ⟨S16x256, rows16 (nib (codes q h 0)) (scl raw ![0, 0, 0] slices_S8x1x256_o0_0_0_S1x1x256) ![16, 0] slices_S64x256_o16_0_S16x256⟩,
    ⟨S16x256, rows16 (nib (codes q h 0)) (scl raw ![1, 0, 0] slices_S8x1x256_o1_0_0_S1x1x256) ![32, 0] slices_S64x256_o32_0_S16x256⟩,
    ⟨S16x256, rows16 (nib (codes q h 0)) (scl raw ![1, 0, 0] slices_S8x1x256_o1_0_0_S1x1x256) ![48, 0] slices_S64x256_o48_0_S16x256⟩,
    ⟨S16x256, rows16 (nib (codes q h 1)) (scl raw ![2, 0, 0] slices_S8x1x256_o2_0_0_S1x1x256) ![0, 0] slices_S64x256_o0_0_S16x256⟩,
    ⟨S16x256, rows16 (nib (codes q h 1)) (scl raw ![2, 0, 0] slices_S8x1x256_o2_0_0_S1x1x256) ![16, 0] slices_S64x256_o16_0_S16x256⟩,
    ⟨S16x256, rows16 (nib (codes q h 1)) (scl raw ![3, 0, 0] slices_S8x1x256_o3_0_0_S1x1x256) ![32, 0] slices_S64x256_o32_0_S16x256⟩,
    ⟨S16x256, rows16 (nib (codes q h 1)) (scl raw ![3, 0, 0] slices_S8x1x256_o3_0_0_S1x1x256) ![48, 0] slices_S64x256_o48_0_S16x256⟩,
    ⟨S16x256, rows16 (nib (codes q h 2)) (scl raw ![4, 0, 0] slices_S8x1x256_o4_0_0_S1x1x256) ![0, 0] slices_S64x256_o0_0_S16x256⟩,
    ⟨S16x256, rows16 (nib (codes q h 2)) (scl raw ![4, 0, 0] slices_S8x1x256_o4_0_0_S1x1x256) ![16, 0] slices_S64x256_o16_0_S16x256⟩,
    ⟨S16x256, rows16 (nib (codes q h 2)) (scl raw ![5, 0, 0] slices_S8x1x256_o5_0_0_S1x1x256) ![32, 0] slices_S64x256_o32_0_S16x256⟩,
    ⟨S16x256, rows16 (nib (codes q h 2)) (scl raw ![5, 0, 0] slices_S8x1x256_o5_0_0_S1x1x256) ![48, 0] slices_S64x256_o48_0_S16x256⟩,
    ⟨S16x256, rows16 (nib (codes q h 3)) (scl raw ![6, 0, 0] slices_S8x1x256_o6_0_0_S1x1x256) ![0, 0] slices_S64x256_o0_0_S16x256⟩,
    ⟨S16x256, rows16 (nib (codes q h 3)) (scl raw ![6, 0, 0] slices_S8x1x256_o6_0_0_S1x1x256) ![16, 0] slices_S64x256_o16_0_S16x256⟩,
    ⟨S16x256, rows16 (nib (codes q h 3)) (scl raw ![7, 0, 0] slices_S8x1x256_o7_0_0_S1x1x256) ![32, 0] slices_S64x256_o32_0_S16x256⟩,
    ⟨S16x256, rows16 (nib (codes q h 3)) (scl raw ![7, 0, 0] slices_S8x1x256_o7_0_0_S1x1x256) ![48, 0] slices_S64x256_o48_0_S16x256⟩] concatenates_S16x256_S16x256_S16x256_S16x256_S16x256_S16x256_S16x256_S16x256_S16x256_S16x256_S16x256_S16x256_S16x256_S16x256_S16x256_S16x256_S256x256_d0

/-! ## The steps -/

/-- Unit `q` of the matrix unit for block `b` of the order prologue. -/
abbrev unitOf (b : Fin 28) : Fin 2 := ⟨b.val % 2, Nat.mod_lt _ (by decide)⟩

/-- One block's columns, read off the activations or the reordered activations. -/
abbrev rX (b : Fin 28) : Rect S128x7168 := Rect.unit (s := S128x7168) ![0, 256 * b.val] S128x256.size (inbX b)
abbrev rQ (b : Fin 28) (m : Fin 2) : Rect S28x64x512 := Rect.unit (s := S28x64x512) ![b.val, 0, 256 * m.val] S1x64x256.size (inbQ b m)
abbrev rH (b : Fin 28) (m : Fin 2) : Rect S28x32x512 := Rect.unit (s := S28x32x512) ![b.val, 0, 256 * m.val] S1x32x256.size (inbH b m)
abbrev rO (m : Fin 2) : Rect S128x512 := Rect.unit (s := S128x512) ![0, 256 * m.val] S128x256.size (inbO m)
abbrev rS (r : Fin 12) : Rect S12x28x512 := Rect.unit (s := S12x28x512) ![r.val, 0, 0] S1x28x512.size (inbS r)
abbrev rD : Rect S28x512 := Rect.unit (s := S28x512) ![0, 0] S28x512.size inb_S28x512_S28x512_0_0

abbrev rG (b : Fin 28) (m : Fin 2) : Rect S8x32x512 := Rect.unit (s := S8x32x512) ![0, b.val, 256 * m.val] S8x1x256.size (inbG b m)
abbrev rW (p : Fin 8) : Rect S8x32x512 := Rect.unit (s := S8x32x512) ![p.val, 0, 0] S1x28x512.size (inbW p)

/-- What one block of the order prologue does after its product: the product out of the matrix unit, narrowed, and
    stored as the block's reordered columns. -/
def ordTail (b : Fin 28) (arg7 : Memref sig .tc .vmem S128x7168 .bf16) (harg7 : arg7.IsWhole) (s : Mxu F) : Pr (F := F) (Mxu F) := do
  let v := s.read (unitOf b) 0 fits_0_128
  let _old : Vec F S128x256 .bf16 ← Prog.lift (.load arg7 (rX b).toLoadRect (View.loadsAt_vmem h_S128x256))
  Prog.lift (.store arg7 (rX b) (shapeCast S128x256 (truncf .bf16 v bitsLt_bf16_f32) shapeCasts_S128x256_S128x256 : FVec F S128x256 .bf16) Finset.univ
    (View.stores_vmem h_S128x256 (harg7.storeExact_slice rfl _ (packX b)) (fun _ => rfl)) (.inl rfl))
  pure (s.pop (unitOf b) 0 128 fits_0_128)

/-- One of the first two blocks of the order prologue: its unit takes the matrix from the staging register. -/
def ordStep0 (b : Fin 28) (arg1 arg7 : Memref sig .tc .vmem S128x7168 .bf16) (harg7 : arg7.IsWhole) (s : Mxu F) : Pr (F := F) (Mxu F) := do
  let x : Vec F S128x256 .bf16 ← Prog.lift (.load arg1 (rX b).toLoadRect (View.loadsAt_vmem h_S128x256))
  ordTail b arg7 harg7 (s.accLhs (unitOf b) 0 0 (shapeCast S128x256 x shapeCasts_S128x256_S128x256 : FVec F S128x256 .bf16) fits_0_128)

/-- One later block of the order prologue: its unit has the matrix loaded. -/
def ordStep1 (b : Fin 28) (arg1 arg7 : Memref sig .tc .vmem S128x7168 .bf16) (harg7 : arg7.IsWhole) (s : Mxu F) : Pr (F := F) (Mxu F) := do
  let x : Vec F S128x256 .bf16 ← Prog.lift (.load arg1 (rX b).toLoadRect (View.loadsAt_vmem h_S128x256))
  let s ← s.accLhsLoaded (unitOf b) 0 (shapeCast S128x256 x shapeCasts_S128x256_S128x256 : FVec F S128x256 .bf16) fits_0_128
  ordTail b arg7 harg7 s

/-- The later blocks of the order prologue in turn. -/
def ordLoop (arg1 arg7 : Memref sig .tc .vmem S128x7168 .bf16) (harg7 : arg7.IsWhole) : List (Fin 28) → Mxu F → Pr (F := F) (Mxu F)
  | [], s => pure s
  | b :: bs, s => ordStep1 b arg1 arg7 harg7 s >>= ordLoop arg1 arg7 harg7 bs

/-- The blocks from the third on. -/
def lateBlocks : List (Fin 28) := [⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩]
/-- All blocks. -/
def allBlocks : List (Fin 28) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩]

/-- The order prologue. -/
def ordAll (arg1 arg7 : Memref sig .tc .vmem S128x7168 .bf16) (harg7 : arg7.IsWhole) : Pr (F := F) (Mxu F) := do
  let s ← Mxu.init.pushRhs 0 0 false ordW
  let s ← s.pushRhs 1 0 false ordW
  let s ← ordStep0 0 arg1 arg7 harg7 s
  let s ← ordStep0 1 arg1 arg7 harg7 s
  ordLoop arg1 arg7 harg7 lateBlocks s

/-- One plane of the scale buffer written. -/
def putWord (p : Fin 8) (arg8 : Memref sig .tc .vmem S8x32x512 .i32) (harg8 : arg8.IsWhole) (w : Vec F S1x28x512 .i32) : Pr (F := F) PUnit := do
  let _old : Vec F S1x28x512 .i32 ← Prog.lift (.load arg8 (rW p).toLoadRect (View.loadsAt_vmem h_S1x28x512))
  Prog.lift (.store arg8 (rW p) w Finset.univ (View.stores_vmem_bits_univ h_S1x28x512 rfl) (.inl rfl))

/-- One plane of the packed scales read. -/
def getPlane (r : Fin 12) (arg4 : Memref sig .tc .vmem S12x28x512 .i8) : Pr (F := F) (Vec F S1x28x512 .i8) :=
  Prog.lift (.load arg4 (rS r).toLoadRect (View.loadsAt_vmem h_S1x28x512))

/-- The scale buffer filled. -/
def prep (arg4 : Memref sig .tc .vmem S12x28x512 .i8) (arg5 : Memref sig .tc .vmem S28x512 .i16)
    (arg8 : Memref sig .tc .vmem S8x32x512 .i32) (harg8 : arg8.IsWhole) : Pr (F := F) PUnit := do
  let d : Vec F S28x512 .i16 ← Prog.lift (.load arg5 rD.toLoadRect (View.loadsAt_vmem h_S28x512))
  let r0 ← getPlane 0 arg4
  let r1 ← getPlane 1 arg4
  let r2 ← getPlane 2 arg4
  let r3 ← getPlane 3 arg4
  let r4 ← getPlane 4 arg4
  let r5 ← getPlane 5 arg4
  let r6 ← getPlane 6 arg4
  let r7 ← getPlane 7 arg4
  let r8 ← getPlane 8 arg4
  let r9 ← getPlane 9 arg4
  let r10 ← getPlane 10 arg4
  let r11 ← getPlane 11 arg4
  putWord 0 arg8 harg8 (word (grp (half d) r0 r8 0#32 0#32) (grp (half d) r4 r8 0#32 2#32))
  putWord 1 arg8 harg8 (word (grp (half d) r1 r9 0#32 0#32) (grp (half d) r5 r9 0#32 2#32))
  putWord 2 arg8 harg8 (word (grp (half d) r2 r10 0#32 0#32) (grp (half d) r6 r10 0#32 2#32))
  putWord 3 arg8 harg8 (word (grp (half d) r3 r11 0#32 0#32) (grp (half d) r7 r11 0#32 2#32))
  putWord 4 arg8 harg8 (word (grp (half d) r0 r8 4#32 4#32) (grp (half d) r4 r8 4#32 6#32))
  putWord 5 arg8 harg8 (word (grp (half d) r1 r9 4#32 4#32) (grp (half d) r5 r9 4#32 6#32))
  putWord 6 arg8 harg8 (word (grp (half d) r2 r10 4#32 4#32) (grp (half d) r6 r10 4#32 6#32))
  putWord 7 arg8 harg8 (word (grp (half d) r3 r11 4#32 4#32) (grp (half d) r7 r11 4#32 6#32))

/-- One block's step for one half of the tile: its weights into the matrix unit, times the block's reordered columns,
    onto the unit's sums. -/
def step (b : Fin 28) (m : Fin 2) (arg2 : Memref sig .tc .vmem S28x32x512 .i8) (arg3 : Memref sig .tc .vmem S28x64x512 .i8)
    (arg7 : Memref sig .tc .vmem S128x7168 .bf16) (arg8 : Memref sig .tc .vmem S8x32x512 .i32) (s : Mxu F) : Pr (F := F) (Mxu F) := do
  let raw : Vec F S8x1x256 .i32 ← Prog.lift (.load arg8 (rG b m).toLoadRect (View.loadsAt_vmem h_S8x1x256))
  let q : Vec F S1x64x256 .i8 ← Prog.lift (.load arg3 (rQ b m).toLoadRect (View.loadsAt_vmem h_S1x64x256))
  let h : Vec F S1x32x256 .i8 ← Prog.lift (.load arg2 (rH b m).toLoadRect (View.loadsAt_vmem h_S1x32x256))
  let s ← s.pushRhs m 0 false (wfn raw q h)
  let x : Vec F S128x256 .bf16 ← Prog.lift (.load arg7 (rX b).toLoadRect (View.loadsAt_vmem h_S128x256))
  pure (s.accLhs m 0 0 x fits_0_128)

/-- The blocks in turn, each for both halves of the tile. -/
def stepLoop (arg2 : Memref sig .tc .vmem S28x32x512 .i8) (arg3 : Memref sig .tc .vmem S28x64x512 .i8)
    (arg7 : Memref sig .tc .vmem S128x7168 .bf16) (arg8 : Memref sig .tc .vmem S8x32x512 .i32) : List (Fin 28) → Mxu F → Pr (F := F) (Mxu F)
  | [], s => pure s
  | b :: bs, s => do
    let s ← step b 0 arg2 arg3 arg7 arg8 s
    let s ← step b 1 arg2 arg3 arg7 arg8 s
    stepLoop arg2 arg3 arg7 arg8 bs s

/-- One half of the tile out of the matrix unit, narrowed and stored. -/
def putOut (m : Fin 2) (arg6 : Memref sig .tc .vmem S128x512 .bf16) (harg6 : arg6.IsWhole) (s : Mxu F) : Pr (F := F) (Mxu F) := do
  let _old : Vec F S128x256 .bf16 ← Prog.lift (.load arg6 (rO m).toLoadRect (View.loadsAt_vmem h_S128x256))
  Prog.lift (.store arg6 (rO m) (truncf .bf16 (s.read m 0 fits_0_128) bitsLt_bf16_f32 : FVec F S128x256 .bf16) Finset.univ
    (View.stores_vmem h_S128x256 (harg6.storeExact_slice rfl _ (packO m)) (fun _ => rfl)) (.inl rfl))
  pure (s.pop m 0 128 fits_0_128)

/-- The order prologue at the first grid point, nothing at any other. -/
def start (i : grid0.Coords) (arg1 arg7 : Memref sig .tc .vmem S128x7168 .bf16) (harg7 : arg7.IsWhole) : Pr (F := F) (Mxu F) :=
  if Scalar.cmpi .ne (Scalar.extui (Scalar.cmpi .eq (BitVec.ofNat 32 (i 0).val) 0#32)) 0#32 = 1#1
    then ordAll arg1 arg7 harg7 else pure Mxu.init

/-- The body. -/
def body (i : grid0.Coords) (arg1 : Memref sig .tc .vmem S128x7168 .bf16)
    (arg2 : Memref sig .tc .vmem S28x32x512 .i8) (arg3 : Memref sig .tc .vmem S28x64x512 .i8)
    (arg4 : Memref sig .tc .vmem S12x28x512 .i8) (arg5 : Memref sig .tc .vmem S28x512 .i16)
    (arg6 : Memref sig .tc .vmem S128x512 .bf16) (harg6 : arg6.IsWhole)
    (arg7 : Memref sig .tc .vmem S128x7168 .bf16) (harg7 : arg7.IsWhole)
    (arg8 : Memref sig .tc .vmem S8x32x512 .i32) (harg8 : arg8.IsWhole) : Pr (F := F) PUnit := do
  let s ← start i arg1 arg7 harg7
  prep arg4 arg5 arg8 harg8
  let s ← stepLoop arg2 arg3 arg7 arg8 allBlocks s
  let s ← putOut 0 arg6 harg6 s
  let s ← putOut 1 arg6 harg6 s
  s.exit

set_option maxHeartbeats 0 in
/-- The first window of the printed body: the order prologue if this is the first grid point, and the row scales. -/
theorem head_eq (i : grid0.Coords) (arg1 : Memref sig .tc .vmem S128x7168 .bf16) (harg1 : arg1.IsWhole)
    (arg2 : Memref sig .tc .vmem S28x32x512 .i8) (harg2 : arg2.IsWhole) (arg3 : Memref sig .tc .vmem S28x64x512 .i8) (harg3 : arg3.IsWhole)
    (arg4 : Memref sig .tc .vmem S12x28x512 .i8) (harg4 : arg4.IsWhole) (arg5 : Memref sig .tc .vmem S28x512 .i16) (harg5 : arg5.IsWhole)
    (arg6 : Memref sig .tc .vmem S128x512 .bf16) (harg6 : arg6.IsWhole)
    (arg7 : Memref sig .tc .vmem S128x7168 .bf16) (harg7 : arg7.IsWhole)
    (arg8 : Memref sig .tc .vmem S8x32x512 .i32) (harg8 : arg8.IsWhole) :
    k0_part9 (F := F) i arg1 harg1 arg2 harg2 arg3 harg3 arg4 harg4 arg5 harg5 arg6 harg6 arg7 harg7 arg8 harg8
      = (do
        let s ← start i arg1 arg7 harg7
        let d : Vec F S28x512 .i16 ← Prog.lift (.load arg5 rD.toLoadRect (View.loadsAt_vmem h_S28x512))
        pure ⟨s, half d⟩) := by
  unfold k0_part9 start
  by_cases h : Scalar.cmpi .ne (Scalar.extui (Scalar.cmpi .eq (BitVec.ofNat 32 (i 0).val) 0#32)) 0#32 = 1#1
  · rw [dif_pos h, if_pos h]; rfl
  · rw [dif_neg h, if_neg h]; rfl

end Cert.Proof.PK

end
-- ==== Proof.PK.Wp.lean ====
module

public import proofs.«01_k».proof.Proof.PK.Shape
public import Idealize.ShloMosaic.Lib.Mxu.Lemmas
public import Idealize.ShloMosaic.Lib.Pipeline.FrameBody

/-! How the steps of the body run: each takes the eight memrefs at given contents to the contents it leaves. -/

@[expose] public section

set_option maxRecDepth 16384

noncomputable section

namespace Cert.Proof.PK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [BitOps F]

local notation "𝕄" => MT nD τ sig Unit (Elt F) ℕ (UR sig nD τ) ℕ

/-! ## Contents overwritten on a rectangle -/

open Classical in
/-- The contents `X` with `w` in place of what the rectangle names. -/
def upd {sh : Shape} {α : Type} (r : Rect sh) (w : r.shape.Idx → α) (X : sh.Idx → α) : sh.Idx → α :=
  fun y => if h : ∃ x, r.emb x = y then w h.choose else X y

theorem upd_emb {sh : Shape} {α : Type} (r : Rect sh) (w : r.shape.Idx → α) (X : sh.Idx → α) (x : r.shape.Idx) :
    upd r w X (r.emb x) = w x := by
  have h : ∃ x', r.emb x' = r.emb x := ⟨x, rfl⟩
  unfold upd; rw [dif_pos h]; exact congrArg w (r.emb.injective h.choose_spec)

theorem upd_not {sh : Shape} {α : Type} (r : Rect sh) (w : r.shape.Idx → α) (X : sh.Idx → α) (y : sh.Idx)
    (h : ∀ x, r.emb x ≠ y) : upd r w X y = X y := by
  unfold upd; rw [dif_neg]; rintro ⟨x, hx⟩; exact h x hx

/-! ## One load, one store -/

/-- A load of an owned memref continues at what the rectangle reads of its contents. -/
theorem owns_load (c : Thread nD τ) {α : Type} {Q : α → sProp 𝕄} {sh : Shape} {e : EltTy} {cs : CoreSpace} {m : Memref sig c.2.kind cs sh e} {r : Rect sh}
    {hl : m.view.LoadsAt r.toLoadRect} {k : (r.shape.Idx → Elt F e) → Prog (TpuEff nD τ sig (Elt F) Λ₀ c.2) α} {X : sh.Idx → Elt F e} :
    (owns c m fullShare X : sProp 𝕄)
      ⊢ iprop((owns c m fullShare X -∗ wp frame (wpE (defs₀ (F := F)) Variants.none c none) Set.univ (k (fun x => X (r.emb x))) Q)
        -∗ wp frame (wpE (defs₀ (F := F)) Variants.none c none) Set.univ (.op (.load m r.toLoadRect hl) k) Q) := by
  unfold owns
  iintro ⟨%f, %hf, H⟩ Hk
  subst hf
  iapply (wp_load Variants.none c none Set.univ (m := m) (r := r.toLoadRect) (S := m.view.set) (View.setOn_subset_set _ _)) $$ H
  iintro H
  iapply Hk
  iexists f; isplitr; · ipureintro; rfl
  iexact H

/-- A store to a memref owned whole leaves the contents overwritten on the rectangle. -/
theorem owns_store (c : Thread nD τ) {α : Type} {Q : α → sProp 𝕄} {sh : Shape} {e : EltTy} {cs : CoreSpace} {m : Memref sig c.2.kind cs sh e} {r : Rect sh}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ c.2) α} {X : sh.Idx → Elt F e} :
    (owns c m fullShare X : sProp 𝕄)
      ⊢ iprop((owns c m fullShare (upd r w X) -∗ wp frame (wpE (defs₀ (F := F)) Variants.none c none) Set.univ (k ⟨⟩) Q)
        -∗ wp frame (wpE (defs₀ (F := F)) Variants.none c none) Set.univ (.op (.store m r w Finset.univ hx hm) k) Q) := by
  unfold owns
  iintro ⟨%f, %hf, H⟩ Hk
  subst hf
  iapply (wp_store Variants.none c none Set.univ (m := m) (r := r) (S := m.view.set) (View.set_slice_subset m.view r)) $$ H
  iintro H
  iapply Hk
  iexists _; isplitr
  swap; · iexact H
  ipureintro
  funext y
  by_cases h : ∃ x, r.emb x = y
  · obtain ⟨x, rfl⟩ := h
    rw [upd_emb]; exact View.read_slice_write_emb r f w (Finset.mem_univ x)
  · rw [upd_not _ _ _ _ fun x hx => h ⟨x, hx⟩]
    refine View.read_slice_write_of_not_mem r f w _ fun hy => h ?_
    obtain ⟨x, -, hx⟩ := Finset.mem_map.mp hy
    exact ⟨x, hx⟩

/-! ## The eight memrefs -/

/-- The body's memrefs. -/
structure Args where
  a1 : Memref sig .tc .vmem S128x7168 .bf16
  a2 : Memref sig .tc .vmem S28x32x512 .i8
  a3 : Memref sig .tc .vmem S28x64x512 .i8
  a4 : Memref sig .tc .vmem S12x28x512 .i8
  a5 : Memref sig .tc .vmem S28x512 .i16
  a6 : Memref sig .tc .vmem S128x512 .bf16
  a7 : Memref sig .tc .vmem S128x7168 .bf16
  a8 : Memref sig .tc .vmem S8x32x512 .i32

/-- The contents of the five inputs. -/
structure Ins (F : FTy → Type) where
  x : Vec F S128x7168 .bf16
  h : Vec F S28x32x512 .i8
  q : Vec F S28x64x512 .i8
  s : Vec F S12x28x512 .i8
  d : Vec F S28x512 .i16

variable (c : Dev nD) (A : Args) (I : Ins F)

/-- The eight memrefs owned: the inputs at their contents, the output at `o`, the reordered activations at `xp`, the
    scales at `g`. -/
def Rs (o : Vec F S128x512 .bf16) (xp : Vec F S128x7168 .bf16) (g : Vec F S8x32x512 .i32) : sProp 𝕄 :=
  iprop(owns (c : Thread nD τ) A.a1 fullShare I.x ∗ owns (c : Thread nD τ) A.a2 fullShare I.h ∗ owns (c : Thread nD τ) A.a3 fullShare I.q
    ∗ owns (c : Thread nD τ) A.a4 fullShare I.s ∗ owns (c : Thread nD τ) A.a5 fullShare I.d ∗ owns (c : Thread nD τ) A.a6 fullShare o
    ∗ owns (c : Thread nD τ) A.a7 fullShare xp ∗ owns (c : Thread nD τ) A.a8 fullShare g)

/-- From `P` the program runs to a result satisfying `Φ`, leaving `P'`. -/
def Tri {α : Type} (P : sProp 𝕄) (p : Pr (F := F) α) (Φ : α → Prop) (P' : sProp 𝕄) : Prop :=
  P ⊢ wp frame (wpE (defs₀ (F := F)) Variants.none (c : Thread nD τ) none) Set.univ p (fun a => iprop(⌜Φ a⌝ ∗ P'))

variable {c}

theorem Tri.bind {α β : Type} {P P' P'' : sProp 𝕄} {p : Pr (F := F) α} {k : α → Pr (F := F) β} {Φ : α → Prop} {Ψ : β → Prop}
    (h : Tri c P p Φ P') (hk : ∀ a, Φ a → Tri c P' (k a) Ψ P'') : Tri c P (p >>= k) Ψ P'' := by
  unfold Tri at *
  rw [wp_bind]
  refine h.trans (wp_mono _ _ _ fun a => ?_)
  iintro ⟨%ha, H⟩
  iapply (hk a ha)
  iexact H

theorem Tri.mono {α : Type} {P P' : sProp 𝕄} {p : Pr (F := F) α} {Φ Ψ : α → Prop} (h : Tri c P p Φ P') (hΦ : ∀ a, Φ a → Ψ a) : Tri c P p Ψ P' := by
  unfold Tri at *
  refine h.trans (wp_mono _ _ _ fun a => ?_)
  iintro ⟨%ha, H⟩
  isplitr; · ipureintro; exact hΦ a ha
  iexact H

theorem Tri.pure {α : Type} {P : sProp 𝕄} {v : α} {Φ : α → Prop} (h : Φ v) : Tri (F := F) c P (pure v) Φ P := by
  unfold Tri
  rw [show (Pure.pure v : Pr (F := F) α) = .ret v from rfl, wp_ret]
  iintro H
  imodintro
  isplitr; · ipureintro; exact h
  iexact H

variable {A I} {o : Vec F S128x512 .bf16} {xp : Vec F S128x7168 .bf16} {g : Vec F S8x32x512 .i32}

theorem ld1 {r : Rect S128x7168} {hl : A.a1.view.LoadsAt r.toLoadRect} :
    Tri c (Rs c A I o xp g) (Prog.lift (.load A.a1 r.toLoadRect hl)) (· = fun x => I.x (r.emb x)) (Rs c A I o xp g) := by
  unfold Tri Rs
  iintro ⟨H1, H2, H3, H4, H5, H6, H7, H8⟩
  iapply (owns_load (c : Thread nD τ) (m := A.a1) (r := r)) $$ H1; iintro H1
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld2 {r : Rect S28x32x512} {hl : A.a2.view.LoadsAt r.toLoadRect} :
    Tri c (Rs c A I o xp g) (Prog.lift (.load A.a2 r.toLoadRect hl)) (· = fun x => I.h (r.emb x)) (Rs c A I o xp g) := by
  unfold Tri Rs
  iintro ⟨H1, H2, H3, H4, H5, H6, H7, H8⟩
  iapply (owns_load (c : Thread nD τ) (m := A.a2) (r := r)) $$ H2; iintro H2
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld3 {r : Rect S28x64x512} {hl : A.a3.view.LoadsAt r.toLoadRect} :
    Tri c (Rs c A I o xp g) (Prog.lift (.load A.a3 r.toLoadRect hl)) (· = fun x => I.q (r.emb x)) (Rs c A I o xp g) := by
  unfold Tri Rs
  iintro ⟨H1, H2, H3, H4, H5, H6, H7, H8⟩
  iapply (owns_load (c : Thread nD τ) (m := A.a3) (r := r)) $$ H3; iintro H3
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld4 {r : Rect S12x28x512} {hl : A.a4.view.LoadsAt r.toLoadRect} :
    Tri c (Rs c A I o xp g) (Prog.lift (.load A.a4 r.toLoadRect hl)) (· = fun x => I.s (r.emb x)) (Rs c A I o xp g) := by
  unfold Tri Rs
  iintro ⟨H1, H2, H3, H4, H5, H6, H7, H8⟩
  iapply (owns_load (c : Thread nD τ) (m := A.a4) (r := r)) $$ H4; iintro H4
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld5 {r : Rect S28x512} {hl : A.a5.view.LoadsAt r.toLoadRect} :
    Tri c (Rs c A I o xp g) (Prog.lift (.load A.a5 r.toLoadRect hl)) (· = fun x => I.d (r.emb x)) (Rs c A I o xp g) := by
  unfold Tri Rs
  iintro ⟨H1, H2, H3, H4, H5, H6, H7, H8⟩
  iapply (owns_load (c : Thread nD τ) (m := A.a5) (r := r)) $$ H5; iintro H5
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld6 {r : Rect S128x512} {hl : A.a6.view.LoadsAt r.toLoadRect} :
    Tri c (Rs c A I o xp g) (Prog.lift (.load A.a6 r.toLoadRect hl)) (· = fun x => o (r.emb x)) (Rs c A I o xp g) := by
  unfold Tri Rs
  iintro ⟨H1, H2, H3, H4, H5, H6, H7, H8⟩
  iapply (owns_load (c : Thread nD τ) (m := A.a6) (r := r)) $$ H6; iintro H6
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld7 {r : Rect S128x7168} {hl : A.a7.view.LoadsAt r.toLoadRect} :
    Tri c (Rs c A I o xp g) (Prog.lift (.load A.a7 r.toLoadRect hl)) (· = fun x => xp (r.emb x)) (Rs c A I o xp g) := by
  unfold Tri Rs
  iintro ⟨H1, H2, H3, H4, H5, H6, H7, H8⟩
  iapply (owns_load (c : Thread nD τ) (m := A.a7) (r := r)) $$ H7; iintro H7
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld8 {r : Rect S8x32x512} {hl : A.a8.view.LoadsAt r.toLoadRect} :
    Tri c (Rs c A I o xp g) (Prog.lift (.load A.a8 r.toLoadRect hl)) (· = fun x => g (r.emb x)) (Rs c A I o xp g) := by
  unfold Tri Rs
  iintro ⟨H1, H2, H3, H4, H5, H6, H7, H8⟩
  iapply (owns_load (c : Thread nD τ) (m := A.a8) (r := r)) $$ H8; iintro H8
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem st6 {r : Rect S128x512} {w : Vec F r.shape .bf16} {hx : (A.a6.access r).Stores Finset.univ}
    {hm : (Finset.univ : Finset r.shape.Idx) = Finset.univ ∨ ∀ a, r.stride a = 1} :
    Tri c (Rs c A I o xp g) (Prog.lift (.store A.a6 r w Finset.univ hx hm)) (fun _ => True) (Rs c A I (upd r w o) xp g) := by
  unfold Tri Rs
  iintro ⟨H1, H2, H3, H4, H5, H6, H7, H8⟩
  iapply (owns_store (c : Thread nD τ) (m := A.a6) (r := r) (w := w)) $$ H6; iintro H6
  rw [wp_ret]; imodintro
  isplitr; · ipureintro; trivial
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem st7 {r : Rect S128x7168} {w : Vec F r.shape .bf16} {hx : (A.a7.access r).Stores Finset.univ}
    {hm : (Finset.univ : Finset r.shape.Idx) = Finset.univ ∨ ∀ a, r.stride a = 1} :
    Tri c (Rs c A I o xp g) (Prog.lift (.store A.a7 r w Finset.univ hx hm)) (fun _ => True) (Rs c A I o (upd r w xp) g) := by
  unfold Tri Rs
  iintro ⟨H1, H2, H3, H4, H5, H6, H7, H8⟩
  iapply (owns_store (c : Thread nD τ) (m := A.a7) (r := r) (w := w)) $$ H7; iintro H7
  rw [wp_ret]; imodintro
  isplitr; · ipureintro; trivial
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem st8 {r : Rect S8x32x512} {w : Vec F r.shape .i32} {hx : (A.a8.access r).Stores Finset.univ}
    {hm : (Finset.univ : Finset r.shape.Idx) = Finset.univ ∨ ∀ a, r.stride a = 1} :
    Tri c (Rs c A I o xp g) (Prog.lift (.store A.a8 r w Finset.univ hx hm)) (fun _ => True) (Rs c A I o xp (upd r w g)) := by
  unfold Tri Rs
  iintro ⟨H1, H2, H3, H4, H5, H6, H7, H8⟩
  iapply (owns_store (c : Thread nD τ) (m := A.a8) (r := r) (w := w)) $$ H8; iintro H8
  rw [wp_ret]; imodintro
  isplitr; · ipureintro; trivial
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A push onto an empty register. -/
theorem tri_push {P : sProp 𝕄} {s : Mxu F} {q r : Fin 2} {tr : Bool} {φ : FTy} (v : FVec F (Mxu.STile 256) φ) (h : s.reg q r = none) :
    Tri c P (s.pushRhs q r tr v) (· = s.pushed q r tr v) P := by
  unfold Tri Mxu.pushRhs
  iintro H
  iapply (wp_assume (defs := defs₀ (F := F)) Variants.none (c : Thread nD τ) none Set.univ (Mxu.pushOk_of_none s q r tr h))
  rw [wp_ret]; imodintro
  isplitr; · ipureintro; rfl
  iexact H

/-- An accumulate by the tile the unit has loaded. -/
theorem tri_loaded {P : sProp 𝕄} {s : Mxu F} {q : Fin 2} {ad M : Nat} {φ : FTy} (lhs : FVec F (Mxu.STile M) φ) (h : Mxu.Fits ad M) {t : Mxu.Staged F}
    (ht : s.gmr q = some t) : Tri c P (s.accLhsLoaded q ad lhs h) (· = s.accBy q t ad lhs h) P := by
  unfold Tri
  iintro H
  rw [show s.accLhsLoaded q ad lhs h = (s.accLhsLoaded q ad lhs h >>= fun s' => (.ret s' : Prog (TpuEff nD τ sig (Elt F) Λ₀ .tc) (Mxu F))) from (bind_pure _).symm]
  iapply (Mxu.wp_accLhsLoaded (c := (c : Thread nD τ)) lhs h ht)
  rw [wp_ret]; imodintro
  isplitr; · ipureintro; rfl
  iexact H

/-- The exit of a drained unit. -/
theorem tri_exit {P : sProp 𝕄} {s : Mxu F} (h : s.Drained) : Tri c P s.exit (fun _ => True) P := by
  unfold Tri Mxu.exit
  iintro H
  iapply (wp_assume (defs := defs₀ (F := F)) Variants.none (c : Thread nD τ) none Set.univ h)
  rw [wp_ret]; imodintro
  isplitr; · ipureintro; trivial
  iexact H

end Cert.Proof.PK

end
-- ==== Proof.PK.Steps.lean ====
module

public import proofs.«01_k».proof.Proof.PK.Wp

/-! What the body computes, step by step, and that it runs to it. -/

@[expose] public section

set_option maxRecDepth 16384

noncomputable section

namespace Cert.Proof.PK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [BitOps F]

local notation "𝕄" => MT nD τ sig Unit (Elt F) ℕ (UR sig nD τ) ℕ

/-! ## The values -/

/-- Block `b`'s columns. -/
def xOf (x : Vec F S128x7168 .bf16) (b : Fin 28) : Vec F S128x256 .bf16 := fun y => x ((rX b).emb y)

/-- Block `b`'s reordered columns: the product with the order matrix, narrowed. -/
def ordVal (x : Vec F S128x7168 .bf16) (b : Fin 28) : FVec F S128x256 .bf16 :=
  shapeCast S128x256 (truncf .bf16 ((⟨.bf16, false, ordW⟩ : Mxu.Staged F).pass
    (shapeCast S128x256 (xOf x b) shapeCasts_S128x256_S128x256 : FVec F S128x256 .bf16)) bitsLt_bf16_f32) shapeCasts_S128x256_S128x256

/-- The reordered activations after the blocks of the list. -/
def xpo (x : Vec F S128x7168 .bf16) (bs : List (Fin 28)) (xp : Vec F S128x7168 .bf16) : Vec F S128x7168 .bf16 :=
  bs.foldl (fun xp b => upd (rX b) (ordVal x b) xp) xp

/-- The planes of the scale buffer: from the packed scales and the rows' scales. -/
def wordOf (I : Ins F) : Fin 8 → Vec F S1x28x512 .i32 :=
  let d : Vec F S28x512 .i16 := fun y => I.d (rD.emb y)
  let r : Fin 12 → Vec F S1x28x512 .i8 := fun k y => I.s ((rS k).emb y)
  ![word (grp (half d) (r 0) (r 8) 0#32 0#32) (grp (half d) (r 4) (r 8) 0#32 2#32),
    word (grp (half d) (r 1) (r 9) 0#32 0#32) (grp (half d) (r 5) (r 9) 0#32 2#32),
    word (grp (half d) (r 2) (r 10) 0#32 0#32) (grp (half d) (r 6) (r 10) 0#32 2#32),
    word (grp (half d) (r 3) (r 11) 0#32 0#32) (grp (half d) (r 7) (r 11) 0#32 2#32),
    word (grp (half d) (r 0) (r 8) 4#32 4#32) (grp (half d) (r 4) (r 8) 4#32 6#32),
    word (grp (half d) (r 1) (r 9) 4#32 4#32) (grp (half d) (r 5) (r 9) 4#32 6#32),
    word (grp (half d) (r 2) (r 10) 4#32 4#32) (grp (half d) (r 6) (r 10) 4#32 6#32),
    word (grp (half d) (r 3) (r 11) 4#32 4#32) (grp (half d) (r 7) (r 11) 4#32 6#32)]

/-- The scale buffer with its planes written. -/
def gpo (w : Fin 8 → Vec F S1x28x512 .i32) (g : Vec F S8x32x512 .i32) : Vec F S8x32x512 .i32 :=
  upd (rW 7) (w 7) (upd (rW 6) (w 6) (upd (rW 5) (w 5) (upd (rW 4) (w 4)
    (upd (rW 3) (w 3) (upd (rW 2) (w 2) (upd (rW 1) (w 1) (upd (rW 0) (w 0) g)))))))

/-- The element of plane `b`'s row that a half of the tile reads. -/
def ixW (b : Fin 28) (m : Fin 2) (y : S8x1x256.Idx) : S1x28x512.Idx := fun a => match a with
  | ⟨0, _⟩ => ⟨0, Nat.zero_lt_one⟩
  | ⟨1, _⟩ => ⟨b.val, b.isLt⟩
  | ⟨2, _⟩ => ⟨256 * m.val + (y 2).val, by have h1 : (y 2).val < 256 := (y 2).isLt; have h2 := m.isLt; show _ < 512; omega⟩

/-- One block's scales for one half of the tile, read off the planes. -/
def rawOf (w : Fin 8 → Vec F S1x28x512 .i32) (b : Fin 28) (m : Fin 2) : Vec F S8x1x256 .i32 := fun y => w (y 0) (ixW b m y)

/-- One block's product for one half of the tile, from the reordered columns `X` and the scales `raw`. -/
def passWith (I : Ins F) (X : Vec F S128x256 .bf16) (raw : Vec F S8x1x256 .i32) (b : Fin 28) (m : Fin 2) : FVec F (Mxu.STile 128) .f32 :=
  (⟨.bf16, false, wfn raw (fun y => I.q ((rQ b m).emb y)) (fun y => I.h ((rH b m).emb y))⟩ : Mxu.Staged F).pass (M := 128) (φ := .bf16) X

/-- One more product onto a sum, if there is one. -/
def addO (a : Option (FVec F (Mxu.STile 128) .f32)) (p : FVec F (Mxu.STile 128) .f32) : Option (FVec F (Mxu.STile 128) .f32) :=
  some (match a with | none => p | some e => addf e p)

/-- The sum over the blocks of the list. -/
def accs (P : Fin 28 → FVec F (Mxu.STile 128) .f32) (bs : List (Fin 28)) (a : Option (FVec F (Mxu.STile 128) .f32)) : Option (FVec F (Mxu.STile 128) .f32) :=
  bs.foldl (fun a b => addO a (P b)) a

/-- One block's product for one half of the tile. -/
def passOf (I : Ins F) (b : Fin 28) (m : Fin 2) : FVec F (Mxu.STile 128) .f32 := passWith I (ordVal I.x b) (rawOf (wordOf I) b m) b m

/-- One half of the tile: the products summed over all blocks, narrowed. -/
def outTile (I : Ins F) (m : Fin 2) : FVec F S128x256 .bf16 :=
  truncf .bf16 (((accs (fun b => passOf I b m) allBlocks none).getD (constant _ .f32 0) : FVec F (Mxu.STile 128) .f32) : FVec F S128x256 .f32) bitsLt_bf16_f32

/-- The tile. -/
def outBlk (I : Ins F) : Vec F S128x512 .bf16 :=
  upd (rO 1) (outTile I 1) (upd (rO 0) (outTile I 0) (fun _ => Scalar.ofBits .bf16 0#16))

/-! ## What was written, read back -/

theorem xOf_upd (x xp : Vec F S128x7168 .bf16) (b b' : Fin 28) (w : Vec F S128x256 .bf16) :
    xOf (upd (rX b') w xp) b = if b = b' then w else xOf xp b := by
  by_cases hb : b = b'
  · subst hb; rw [if_pos rfl]; exact funext fun y => upd_emb _ _ _ _
  · rw [if_neg hb]
    refine funext fun y => upd_not _ _ _ _ fun z hz => hb ?_
    have h1 : (z 1).val < 256 := (z 1).isLt
    have h2 : (y 1).val < 256 := (y 1).isLt
    have h3 : 256 * b'.val + (z 1).val = 256 * b.val + (y 1).val := by
      have h4 := congrArg Fin.val (congrFun hz 1)
      simpa [Rect.emb_apply] using h4
    exact Fin.ext (by omega)

theorem xpo_nil (x xp : Vec F S128x7168 .bf16) : xpo x [] xp = xp := by unfold xpo; rfl
theorem xpo_cons (x xp : Vec F S128x7168 .bf16) (b : Fin 28) (bs : List (Fin 28)) :
    xpo x (b :: bs) xp = xpo x bs (upd (rX b) (ordVal x b) xp) := by unfold xpo; rfl

theorem xOf_xpo (x : Vec F S128x7168 .bf16) (bs : List (Fin 28)) : ∀ (xp : Vec F S128x7168 .bf16) (b : Fin 28),
    (b ∈ bs ∨ xOf xp b = ordVal x b) → xOf (xpo x bs xp) b = ordVal x b := by
  induction bs with
  | nil =>
    intro xp b h
    rw [xpo_nil]
    exact h.resolve_left List.not_mem_nil
  | cons b' bs ih =>
    intro xp b h
    rw [xpo_cons]
    refine ih (upd (rX b') (ordVal x b') xp) b ?_
    rw [xOf_upd x]
    by_cases hb : b = b'
    · subst hb; exact .inr (if_pos rfl)
    · rw [if_neg hb]
      exact h.imp (fun h => (List.mem_cons.mp h).resolve_left hb) id

theorem all_mem : ∀ b : Fin 28, b ∈ allBlocks := by decide

theorem xOf_all (x xp : Vec F S128x7168 .bf16) (b : Fin 28) : xOf (xpo x allBlocks xp) b = ordVal x b :=
  xOf_xpo x _ _ _ (.inl (all_mem b))

theorem upd_rW_self (p : Fin 8) (w : Vec F S1x28x512 .i32) (g : Vec F S8x32x512 .i32) (y : S1x28x512.Idx) :
    upd (rW p) w g ((rW p).emb y) = w y := upd_emb _ _ _ _

theorem upd_rW_ne (p p' : Fin 8) (h : p' ≠ p) (w : Vec F S1x28x512 .i32) (g : Vec F S8x32x512 .i32) (y : S1x28x512.Idx) :
    upd (rW p') w g ((rW p).emb y) = g ((rW p).emb y) := by
  refine upd_not _ _ _ _ fun z hz => h ?_
  have h1 : (z 0).val < 1 := (z 0).isLt
  have h2 : (y 0).val < 1 := (y 0).isLt
  have h3 : p'.val + (z 0).val = p.val + (y 0).val := by
    have h4 := congrArg Fin.val (congrFun hz 0)
    simpa [Rect.emb_apply] using h4
  exact Fin.ext (by omega)

theorem gpo_rW (w : Fin 8 → Vec F S1x28x512 .i32) (g : Vec F S8x32x512 .i32) (p : Fin 8) (y : S1x28x512.Idx) :
    gpo w g ((rW p).emb y) = w p y := by
  unfold gpo
  match p with
  | 0 => iterate 7 rw [upd_rW_ne _ _ (by decide)]
         rw [upd_rW_self]
  | 1 => iterate 6 rw [upd_rW_ne _ _ (by decide)]
         rw [upd_rW_self]
  | 2 => iterate 5 rw [upd_rW_ne _ _ (by decide)]
         rw [upd_rW_self]
  | 3 => iterate 4 rw [upd_rW_ne _ _ (by decide)]
         rw [upd_rW_self]
  | 4 => iterate 3 rw [upd_rW_ne _ _ (by decide)]
         rw [upd_rW_self]
  | 5 => iterate 2 rw [upd_rW_ne _ _ (by decide)]
         rw [upd_rW_self]
  | 6 => rw [upd_rW_ne _ _ (by decide), upd_rW_self]
  | 7 => rw [upd_rW_self]

theorem gpo_rG (w : Fin 8 → Vec F S1x28x512 .i32) (g : Vec F S8x32x512 .i32) (b : Fin 28) (m : Fin 2) :
    (fun y => gpo w g ((rG b m).emb y) : Vec F S8x1x256 .i32) = rawOf w b m := by
  funext y
  unfold rawOf
  rw [← gpo_rW w g (y 0) (ixW b m y)]
  refine congrArg (gpo w g) (funext fun a => Fin.ext ?_)
  have hy1 : (y 1).val < 1 := (y 1).isLt
  have e1 : ∀ a, ((rG b m).emb y a).val = (rG b m).off a + (y a).val := fun a => by rw [Rect.emb_apply]; exact congrArg _ (Nat.one_mul _)
  have e2 : ∀ a, ((rW (y 0)).emb (ixW b m y) a).val = (rW (y 0)).off a + (ixW b m y a).val := fun a => by rw [Rect.emb_apply]; exact congrArg _ (Nat.one_mul _)
  refine (e1 a).trans (Eq.trans ?_ (e2 a).symm)
  match a with
  | 0 => show 0 + (y 0).val = (y 0).val + 0; omega
  | 1 => show b.val + (y 1).val = 0 + b.val; omega
  | 2 => show 256 * m.val + (y 2).val = 0 + (256 * m.val + (y 2).val); omega

theorem outBlk_eq (I : Ins F) (o : Vec F S128x512 .bf16) : upd (rO 1) (outTile I 1) (upd (rO 0) (outTile I 0) o) = outBlk I := by
  funext y
  unfold outBlk upd
  by_cases h1 : ∃ x, (rO 1).emb x = y
  · rw [dif_pos h1, dif_pos h1]
  · rw [dif_neg h1, dif_neg h1]
    by_cases h0 : ∃ x, (rO 0).emb x = y
    · rw [dif_pos h0, dif_pos h0]
    · exfalso
      have hy0 : (y 0).val < 128 := (y 0).isLt
      have hy1 : (y 1).val < 512 := (y 1).isLt
      by_cases hlt : (y 1).val < 256
      · refine h0 ⟨Mxu.ix (m := 128) (n := 256) ⟨(y 0).val, hy0⟩ ⟨(y 1).val, hlt⟩, funext fun a => Fin.ext ?_⟩
        match a with
        | 0 => rw [Rect.emb_apply]; show 0 + 1 * (y 0).val = (y 0).val; omega
        | 1 => rw [Rect.emb_apply]; show 0 + 1 * (y 1).val = (y 1).val; omega
      · refine h1 ⟨Mxu.ix (m := 128) (n := 256) ⟨(y 0).val, hy0⟩ ⟨(y 1).val - 256, by omega⟩, funext fun a => Fin.ext ?_⟩
        match a with
        | 0 => rw [Rect.emb_apply]; show 0 + 1 * (y 0).val = (y 0).val; omega
        | 1 => rw [Rect.emb_apply]; show 256 + 1 * ((y 1).val - 256) = (y 1).val; omega

theorem outBlk_emb (I : Ins F) (m : Fin 2) (y : S128x256.Idx) : outBlk I ((rO m).emb y) = outTile I m y := by
  unfold outBlk
  match m with
  | 1 => exact upd_emb _ _ _ _
  | 0 =>
    refine (upd_not _ _ _ _ fun z hz => ?_).trans (upd_emb _ _ _ _)
    have h1 : (z 1).val < 256 := (z 1).isLt
    have h2 : (y 1).val < 256 := (y 1).isLt
    have h3 : 256 + (z 1).val = (y 1).val := by
      have h4 := congrArg Fin.val (congrFun hz 1)
      simpa [Rect.emb_apply] using h4
    omega

/-! ## The order prologue -/

/-- Between blocks of the prologue: the registers empty, no row live, the order matrix loaded in both units. -/
def OrdInv (s : Mxu F) : Prop := s.Drained ∧ ∀ q, s.gmr q = some ⟨.bf16, false, ordW⟩

theorem row_fits (r : Fin 128) : (Mxu.row fits_0_128 r).val = r.val := by simp [Mxu.row]

variable {c : Dev nD} {A : Args} {I : Ins F} {o : Vec F S128x512 .bf16} {xp : Vec F S128x7168 .bf16} {g : Vec F S8x32x512 .i32}

theorem tri_ordTail (b : Fin 28) (h7 : A.a7.IsWhole) (s : Mxu F) (hs : s.read (unitOf b) 0 fits_0_128
      = (⟨.bf16, false, ordW⟩ : Mxu.Staged F).pass (shapeCast S128x256 (xOf I.x b) shapeCasts_S128x256_S128x256 : FVec F S128x256 .bf16)) :
    Tri c (Rs c A I o xp g) (ordTail b A.a7 h7 s) (· = s.pop (unitOf b) 0 128 fits_0_128) (Rs c A I o (upd (rX b) (ordVal I.x b) xp) g) := by
  unfold ordTail ordVal
  rw [← hs]
  exact ld7.bind fun _ _ => st7.bind fun _ _ => .pure rfl

theorem tri_ordStep1 (b : Fin 28) (h7 : A.a7.IsWhole) (s : Mxu F) (hs : OrdInv s) :
    Tri c (Rs c A I o xp g) (ordStep1 b A.a1 A.a7 h7 s) OrdInv (Rs c A I o (upd (rX b) (ordVal I.x b) xp) g) := by
  unfold ordStep1
  refine ld1.bind fun x hx => (tri_loaded _ _ (hs.2 _)).bind fun s' hs' => ?_
  subst hx hs'
  refine Tri.mono (tri_ordTail b h7 _ (Mxu.read_accBy_of_not_live _ _ _ _ _ _ fun r => hs.1.2 _ _)) ?_
  rintro s' rfl
  refine ⟨⟨fun q r => hs.1.1 q r, fun q R => ?_⟩, fun q => hs.2 q⟩
  rw [Mxu.live_pop, Mxu.live_accBy]
  split
  · rfl
  · exact hs.1.2 q R

theorem tri_ordLoop (h7 : A.a7.IsWhole) (bs : List (Fin 28)) : ∀ (xp : Vec F S128x7168 .bf16) (s : Mxu F), OrdInv s →
    Tri c (Rs c A I o xp g) (ordLoop A.a1 A.a7 h7 bs s) OrdInv (Rs c A I o (xpo I.x bs xp) g) := by
  induction bs with
  | nil =>
    intro xp s hs
    rw [ordLoop, xpo_nil]
    exact .pure hs
  | cons b bs ih =>
    intro xp s hs
    rw [ordLoop, xpo_cons]
    exact (tri_ordStep1 b h7 s hs).bind fun s' hs' => ih _ s' hs'

theorem tri_ordStep0 (b : Fin 28) (h7 : A.a7.IsWhole) (s : Mxu F) (hl : ∀ q R, s.live q R = false)
    (hr : s.reg (unitOf b) 0 = some ⟨.bf16, false, ordW⟩) :
    Tri c (Rs c A I o xp g) (ordStep0 b A.a1 A.a7 h7 s) (fun s' => (∀ q R, s'.live q R = false)
      ∧ (∀ q r, s'.reg q r = if q = unitOf b ∧ r = 0 then none else s.reg q r)
      ∧ (∀ q, s'.gmr q = if q = unitOf b then some ⟨.bf16, false, ordW⟩ else s.gmr q)) (Rs c A I o (upd (rX b) (ordVal I.x b) xp) g) := by
  have hst : s.staged (unitOf b) 0 = ⟨.bf16, false, ordW⟩ := by rw [Mxu.staged, hr]; rfl
  unfold ordStep0
  refine ld1.bind fun x hx => ?_
  subst hx
  refine Tri.mono (tri_ordTail b h7 _ ((Mxu.read_accLhs_of_not_live _ _ _ _ _ _ fun r => hl _ _).trans (by rw [hst]; rfl))) ?_
  rintro s' rfl
  refine ⟨fun q R => ?_, fun q r => rfl, fun q => ?_⟩
  · rw [Mxu.live_pop, Mxu.live_accLhs]
    split
    · rfl
    · exact hl q R
  · show (if q = unitOf b then some (s.staged (unitOf b) 0) else s.gmr q) = _
    rw [hst]

theorem tri_ordAll (h7 : A.a7.IsWhole) :
    Tri c (Rs c A I o xp g) (ordAll A.a1 A.a7 h7) Mxu.Drained (Rs c A I o (xpo I.x allBlocks xp) g) := by
  unfold ordAll
  refine (tri_push _ rfl).bind fun s1 e1 => ?_
  have r1 : ∀ q r, s1.reg q r = if q = 0 ∧ r = 0 then some ⟨.bf16, false, ordW⟩ else none := by subst e1; intro q r; rfl
  have l1 : ∀ q R, s1.live q R = false := by subst e1; intro q R; rfl
  refine (tri_push _ ((r1 1 0).trans (if_neg (by decide)))).bind fun s2 e2 => ?_
  have r2 : ∀ q r, s2.reg q r = if r = 0 then some ⟨.bf16, false, ordW⟩ else none := by
    subst e2; intro q r
    have h := r1 1 0
    rw [if_neg (by decide)] at h
    by_cases hq : q = 1 ∧ r = 0
    · obtain ⟨rfl, rfl⟩ := hq
      rw [Mxu.reg_pushed_of_none _ _ _ _ _ h]; rfl
    · rw [Mxu.reg_pushed_ne _ _ _ _ _ _ _ hq, r1]
      match q, r with
      | 0, 0 => rfl
      | 0, 1 => rfl
      | 1, 0 => exact absurd ⟨rfl, rfl⟩ hq
      | 1, 1 => rfl
  have l2 : ∀ q R, s2.live q R = false := by subst e2; intro q R; rw [Mxu.live_pushed]; exact l1 q R
  refine (tri_ordStep0 0 h7 s2 l2 ((r2 _ 0).trans (if_pos rfl))).bind fun s3 ⟨l3, r3, g3⟩ => ?_
  have r30 : s3.reg (unitOf 1) 0 = some ⟨.bf16, false, ordW⟩ :=
    ((r3 _ _).trans (if_neg (by decide))).trans ((r2 _ 0).trans (if_pos rfl))
  refine (tri_ordStep0 1 h7 s3 l3 r30).bind fun s4 ⟨l4, r4, g4⟩ => ?_
  refine Tri.mono (tri_ordLoop h7 lateBlocks _ s4 ⟨⟨fun q r => ?_, l4⟩, fun q => ?_⟩) fun s h => h.1
  · rw [r4, r3, r2]
    match q, r with
    | 0, 0 => rfl
    | 0, 1 => rfl
    | 1, 0 => rfl
    | 1, 1 => rfl
  · rw [g4, g3]
    match q with
    | 0 => rfl
    | 1 => rfl

/-! ## The scales -/

theorem tri_putWord (p : Fin 8) (h8 : A.a8.IsWhole) (w : Vec F S1x28x512 .i32) :
    Tri c (Rs c A I o xp g) (putWord p A.a8 h8 w) (fun _ => True) (Rs c A I o xp (upd (rW p) w g)) := by
  unfold putWord
  exact ld8.bind fun _ _ => st8

theorem tri_prep (h8 : A.a8.IsWhole) :
    Tri c (Rs c A I o xp g) (prep A.a4 A.a5 A.a8 h8) (fun _ => True) (Rs c A I o xp (gpo (wordOf I) g)) := by
  unfold prep getPlane
  refine ld5.bind fun d hd => ld4.bind fun r0 h0 => ld4.bind fun r1 h1 => ld4.bind fun r2 h2 => ld4.bind fun r3 h3 =>
    ld4.bind fun r4 h4 => ld4.bind fun r5 h5 => ld4.bind fun r6 h6 => ld4.bind fun r7 h7 => ld4.bind fun r8 h8' =>
    ld4.bind fun r9 h9 => ld4.bind fun r10 h10 => ld4.bind fun r11 h11 => ?_
  subst hd h0 h1 h2 h3 h4 h5 h6 h7 h8' h9 h10 h11
  exact (tri_putWord 0 h8 _).bind fun _ _ => (tri_putWord 1 h8 _).bind fun _ _ => (tri_putWord 2 h8 _).bind fun _ _ =>
    (tri_putWord 3 h8 _).bind fun _ _ => (tri_putWord 4 h8 _).bind fun _ _ => (tri_putWord 5 h8 _).bind fun _ _ =>
    (tri_putWord 6 h8 _).bind fun _ _ => tri_putWord 7 h8 _

/-! ## The products -/

/-- One unit between steps: its registers empty; nothing of it live, or its first 128 rows live and holding the sum. -/
def UnitInv (q : Fin 2) (a : Option (FVec F (Mxu.STile 128) .f32)) (s : Mxu F) : Prop :=
  (∀ r, s.reg q r = none) ∧ match a with
    | none => ∀ R, s.live q R = false
    | some e => (∀ R, s.live q R = decide (R.val < 128)) ∧ s.read q 0 fits_0_128 = e

theorem UnitInv.of_drained {s : Mxu F} (h : s.Drained) (q : Fin 2) : UnitInv q none s :=
  ⟨fun r => Option.isNone_iff_eq_none.mp (h.1 q r), fun R => h.2 q R⟩

theorem UnitInv.step_self {m : Fin 2} {a : Option (FVec F (Mxu.STile 128) .f32)} {s : Mxu F} (h : UnitInv m a s)
    (v : FVec F (Mxu.STile 256) .bf16) (x : FVec F (Mxu.STile 128) .bf16) :
    UnitInv m (addO a ((⟨.bf16, false, v⟩ : Mxu.Staged F).pass x)) ((s.pushed m 0 false v).accLhs m 0 0 x fits_0_128) := by
  have hst : (s.pushed m 0 false v).staged m 0 = ⟨.bf16, false, v⟩ := by
    rw [Mxu.staged, Mxu.reg_pushed_of_none _ _ _ _ _ (h.1 0)]; rfl
  refine ⟨fun r => ?_, ?_, ?_⟩
  · match r with
    | 0 => exact Mxu.reg_accLhs _ _ _ _ _ _
    | 1 => rw [Mxu.reg_accLhs_ne _ _ _ _ _ _ _ _ (by simp), Mxu.reg_pushed_ne _ _ _ _ _ _ _ (by simp)]; exact h.1 1
  · intro R
    rw [Mxu.live_accLhs, Mxu.live_pushed]
    by_cases hR : R.val < 128
    · rw [if_pos ⟨rfl, by omega, by omega⟩]; exact (decide_eq_true hR).symm
    · rw [if_neg (by omega)]
      match a, h with
      | none, h => rw [h.2 R]; exact (decide_eq_false hR).symm
      | some e, h => exact h.2.1 R
  · match a, h with
    | none, h =>
      rw [Mxu.read_accLhs_of_not_live _ _ _ _ _ _ (fun r => by rw [Mxu.live_pushed]; exact h.2 _), hst]
    | some e, h =>
      rw [Mxu.read_accLhs_of_live _ _ _ _ _ _ (fun r => by
        rw [Mxu.live_pushed, h.2.1, row_fits]; exact decide_eq_true r.isLt), hst, Mxu.read_pushed, h.2.2]

theorem UnitInv.step_ne {m m' : Fin 2} (hm : m' ≠ m) {a : Option (FVec F (Mxu.STile 128) .f32)} {s : Mxu F} (h : UnitInv m' a s)
    (v : FVec F (Mxu.STile 256) .bf16) (x : FVec F (Mxu.STile 128) .bf16) :
    UnitInv m' a ((s.pushed m 0 false v).accLhs m 0 0 x fits_0_128) := by
  have hl : ∀ R, ((s.pushed m 0 false v).accLhs m 0 0 x fits_0_128).live m' R = s.live m' R := fun R => by
    rw [Mxu.live_accLhs, Mxu.live_pushed, if_neg (fun h => hm h.1)]
  refine ⟨fun r => ?_, ?_⟩
  · rw [Mxu.reg_accLhs_ne _ _ _ _ _ _ _ _ (fun h => hm h.1), Mxu.reg_pushed_ne _ _ _ _ _ _ _ (fun h => hm h.1)]; exact h.1 r
  · match a, h with
    | none, h => exact fun R => (hl R).trans (h.2 R)
    | some e, h =>
      refine ⟨fun R => (hl R).trans (h.2.1 R), ?_⟩
      rw [Mxu.read_accLhs_ne _ _ _ _ _ _ _ _ _ (.inl hm), Mxu.read_pushed]; exact h.2.2

theorem tri_step (b : Fin 28) (m : Fin 2) (s : Mxu F) (hm : s.reg m 0 = none) :
    Tri c (Rs c A I o xp g) (step b m A.a2 A.a3 A.a7 A.a8 s) (· = (s.pushed m 0 false (wfn (fun y => g ((rG b m).emb y))
      (fun y => I.q ((rQ b m).emb y)) (fun y => I.h ((rH b m).emb y)))).accLhs m 0 0 (xOf xp b) fits_0_128) (Rs c A I o xp g) := by
  unfold step
  refine ld8.bind fun raw e1 => ld3.bind fun q e2 => ld2.bind fun h e3 => ?_
  subst e1 e2 e3
  refine (tri_push _ hm).bind fun s' e4 => ld7.bind fun x e5 => ?_
  subst e4 e5
  exact .pure rfl

theorem tri_stepLoop (bs : List (Fin 28)) : ∀ (s : Mxu F) (a : Fin 2 → Option (FVec F (Mxu.STile 128) .f32)), (∀ q, UnitInv q (a q) s) →
    Tri c (Rs c A I o xp g) (stepLoop A.a2 A.a3 A.a7 A.a8 bs s)
      (fun s' => ∀ q, UnitInv q (accs (fun b => passWith I (xOf xp b) (fun y => g ((rG b q).emb y)) b q) bs (a q)) s') (Rs c A I o xp g) := by
  induction bs with
  | nil => exact fun s a h => .pure h
  | cons b bs ih =>
    intro s a h
    rw [stepLoop]
    refine (tri_step b 0 s ((h 0).1 0)).bind fun s1 e1 => ?_
    have h10 := (h 0).step_self (wfn (fun y => g ((rG b 0).emb y)) (fun y => I.q ((rQ b 0).emb y)) (fun y => I.h ((rH b 0).emb y))) (xOf xp b)
    have h11 := (h 1).step_ne (m := 0) (by decide) (wfn (fun y => g ((rG b 0).emb y)) (fun y => I.q ((rQ b 0).emb y)) (fun y => I.h ((rH b 0).emb y))) (xOf xp b)
    rw [← e1] at h10 h11
    refine (tri_step b 1 s1 (h11.1 0)).bind fun s2 e2 => ?_
    have h20 := h10.step_ne (m := 1) (by decide) (wfn (fun y => g ((rG b 1).emb y)) (fun y => I.q ((rQ b 1).emb y)) (fun y => I.h ((rH b 1).emb y))) (xOf xp b)
    have h21 := h11.step_self (wfn (fun y => g ((rG b 1).emb y)) (fun y => I.q ((rQ b 1).emb y)) (fun y => I.h ((rH b 1).emb y))) (xOf xp b)
    rw [← e2] at h20 h21
    refine Tri.mono (ih s2 (fun q => addO (a q) (passWith I (xOf xp b) (fun y => g ((rG b q).emb y)) b q)) ?_) fun s' h' => h'
    intro q
    match q with
    | 0 => exact h20
    | 1 => exact h21

/-! ## The stores -/

theorem tri_putOut (m : Fin 2) (h6 : A.a6.IsWhole) (s : Mxu F) :
    Tri c (Rs c A I o xp g) (putOut m A.a6 h6 s) (· = s.pop m 0 128 fits_0_128)
      (Rs c A I (upd (rO m) (truncf .bf16 (s.read m 0 fits_0_128) bitsLt_bf16_f32 : FVec F S128x256 .bf16) o) xp g) := by
  unfold putOut
  exact ld6.bind fun _ _ => st6.bind fun _ _ => .pure rfl

theorem accs_some (P : Fin 28 → FVec F (Mxu.STile 128) .f32) (bs : List (Fin 28)) : ∀ (e : FVec F (Mxu.STile 128) .f32),
    ∃ e', accs P bs (some e) = some e' := by
  induction bs with
  | nil => exact fun e => ⟨e, rfl⟩
  | cons b bs ih => exact fun e => ih (addf e (P b))

/-- The body after its prologue, the reordered activations in place: the output's tile is left in its memref. -/
theorem tri_rest (h6 : A.a6.IsWhole) (h8 : A.a8.IsWhole) (hxp : ∀ b, xOf xp b = ordVal I.x b) (s : Mxu F) (hs : s.Drained) :
    Tri c (Rs c A I o xp g) (do
      prep A.a4 A.a5 A.a8 h8
      let s ← stepLoop A.a2 A.a3 A.a7 A.a8 allBlocks s
      let s ← putOut 0 A.a6 h6 s
      let s ← putOut 1 A.a6 h6 s
      s.exit) (fun _ => True) (Rs c A I (outBlk I) xp (gpo (wordOf I) g)) := by
  refine (tri_prep h8).bind fun _ _ => ?_
  refine (tri_stepLoop allBlocks s (fun _ => none) fun q => .of_drained hs q).bind fun s1 h1 => ?_
  have hP : ∀ q, (fun b => passWith I (xOf xp b) (fun y => gpo (wordOf I) g ((rG b q).emb y)) b q) = fun b => passOf I b q := fun q => by
    funext b
    rw [hxp b, gpo_rG]; rfl
  have h1' : ∀ q, (∀ r, s1.reg q r = none) ∧ (∀ R, s1.live q R = decide (R.val < 128))
      ∧ (truncf .bf16 (s1.read q 0 fits_0_128) bitsLt_bf16_f32 : FVec F S128x256 .bf16) = outTile I q := fun q => by
    have h := h1 q
    rw [hP q] at h
    obtain ⟨e, he⟩ := accs_some (fun b => passOf I b q) allBlocks.tail (passOf I 0 q)
    have he' : accs (fun b => passOf I b q) allBlocks none = some e := he
    unfold outTile
    rw [he'] at h ⊢
    exact ⟨h.1, h.2.1, congrArg (fun z : FVec F S128x256 .f32 => truncf .bf16 z bitsLt_bf16_f32) h.2.2⟩
  refine (tri_putOut 0 h6 s1).bind fun s2 e2 => ?_
  refine (tri_putOut 1 h6 s2).bind fun s3 e3 => ?_
  have hr : (truncf .bf16 (s2.read 1 0 fits_0_128) bitsLt_bf16_f32 : FVec F S128x256 .bf16) = outTile I 1 := by
    rw [e2, Mxu.read_pop_ne _ _ _ _ _ _ _ (.inl (by decide))]; exact (h1' 1).2.2
  rw [(h1' 0).2.2, hr, outBlk_eq]
  refine tri_exit ⟨fun q r => ?_, fun q R => ?_⟩
  · rw [e3, e2]; exact Option.isNone_iff_eq_none.mpr ((h1' q).1 r)
  · rw [e3, Mxu.live_pop, e2, Mxu.live_pop, (h1' q).2.1 R]
    match q with
    | 0 => by_cases h : R.val < 128 <;> simp [h]
    | 1 => by_cases h : R.val < 128 <;> simp [h]

/-- The whole body: the reordered activations in place after it, whether this point wrote them or found them. -/
theorem tri_body (i : grid0.Coords) (h6 : A.a6.IsWhole) (h7 : A.a7.IsWhole) (h8 : A.a8.IsWhole)
    (hxp : (i 0).val ≠ 0 → ∀ b, xOf xp b = ordVal I.x b) :
    ∃ xp' g', (∀ b, xOf xp' b = ordVal I.x b) ∧
      Tri c (Rs c A I o xp g) (body i A.a1 A.a2 A.a3 A.a4 A.a5 A.a6 h6 A.a7 h7 A.a8 h8) (fun _ => True) (Rs c A I (outBlk I) xp' g') := by
  unfold body start
  by_cases h : Scalar.cmpi .ne (Scalar.extui (Scalar.cmpi .eq (BitVec.ofNat 32 (i 0).val) 0#32)) 0#32 = 1#1
  · rw [if_pos h]
    exact ⟨_, _, xOf_all I.x xp, (tri_ordAll h7).bind fun s hs => tri_rest h6 h8 (xOf_all I.x xp) s hs⟩
  · rw [if_neg h]
    have h0 : (i 0).val ≠ 0 := fun h0 => h (by rw [h0]; decide)
    exact ⟨_, _, hxp h0, (Tri.pure (Φ := Mxu.Drained) Mxu.init_drained).bind fun s hs => tri_rest h6 h8 (hxp h0) s hs⟩

end Cert.Proof.PK

end
-- ==== Proof.PK.BodyEq.lean ====
module

public import proofs.«01_k».proof.Proof.PK.Shape

/-! The printed body is the structured one. -/

@[expose] public section

set_option maxRecDepth 16384
set_option pp.maxSteps 30

noncomputable section

namespace Cert.Proof.PK

open Idealize.ShloMosaic Idealize.ShloMosaic.TcCoe
open Idealize.SL Idealize.SL.Sem
open Cert.Kernel Cert.Kernel.Facts₀ Cert.Kernel.Facts

variable {F : FTy → Type} [BitOps F]

/-- Two programs that begin with the same request and go on alike are the same. -/
theorem op_congr.{v} {ε : Type → Type v} {α β : Type} {e e' : ε β} {k k' : β → Prog ε α} (he : e = e') (hk : ∀ x, k x = k' x) :
    Prog.op e k = Prog.op e' k' := by rw [he, funext hk]

set_option maxHeartbeats 0 in
/-- The printed body is this one. -/
theorem body_eq (i : grid0.Coords) (arg1 : Memref sig .tc .vmem S128x7168 .bf16) (harg1 : arg1.IsWhole)
    (arg2 : Memref sig .tc .vmem S28x32x512 .i8) (harg2 : arg2.IsWhole) (arg3 : Memref sig .tc .vmem S28x64x512 .i8) (harg3 : arg3.IsWhole)
    (arg4 : Memref sig .tc .vmem S12x28x512 .i8) (harg4 : arg4.IsWhole) (arg5 : Memref sig .tc .vmem S28x512 .i16) (harg5 : arg5.IsWhole)
    (arg6 : Memref sig .tc .vmem S128x512 .bf16) (harg6 : arg6.IsWhole)
    (arg7 : Memref sig .tc .vmem S128x7168 .bf16) (harg7 : arg7.IsWhole)
    (arg8 : Memref sig .tc .vmem S8x32x512 .i32) (harg8 : arg8.IsWhole) :
    cc0_q3k_linear (F := F) i arg1 harg1 arg2 harg2 arg3 harg3 arg4 harg4 arg5 harg5 arg6 harg6 arg7 harg7 arg8 harg8
      = body i arg1 arg2 arg3 arg4 arg5 arg6 harg6 arg7 harg7 arg8 harg8 := by
  unfold cc0_q3k_linear k0_part183 body
  rw [head_eq, bind_assoc, bind_assoc]
  refine congrArg (Bind.bind _) (funext fun s => ?_)
  repeat (refine op_congr rfl ?_; intro x)
  rfl

end Cert.Proof.PK

end
-- ==== Proof.PK.Run.lean ====
module

public import proofs.«01_k».proof.Proof.PK.Steps
public import proofs.«01_k».proof.Proof.PK.BodyEq
public import proofs.«01_k».proof.Proof.Gen.Kernel.Frame
public import Idealize.ShloMosaic.Lib.Claim

/-! The run: at every grid point the body leaves the tile `outBlk` of the point's blocks, and the whole program ends with
the arguments unchanged and every counter at zero. -/

@[expose] public section

set_option maxRecDepth 16384

noncomputable section

namespace Cert.Proof.PK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Facts₀ Cert.Kernel.Facts Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The five inputs' blocks at a point. -/
def ins (c : Dev nD) (t : Fin cfg0.N) : Ins F where
  x := iblk m c 0 t
  h := iblk m c 1 t
  q := iblk m c 2 t
  s := iblk m c 3 t
  d := iblk m c 4 t

/-- The activations' block is the same at every point. -/
theorem ins_x (c : Dev nD) (t t' : Fin cfg0.N) : (ins m c t).x = (ins m c t').x := by
  unfold ins iblk; rfl

/-- The first point. -/
def t0 : Fin cfg0.N := ⟨0, by decide⟩

/-- Before point `n`: the reordered activations in the first scratch buffer once a point has run, anything in the
    second. -/
def Phi (c : Dev nD) (n : Nat) : sProp 𝕄 :=
  iprop((∃ xp : Vec F S128x7168 .bf16, ⌜n ≠ 0 → ∀ b, xOf xp b = ordVal (ins m c t0).x b⌝ ∗ owns (c : Thread nD τ) (Memref.whole cc0_scratch0) fullShare xp)
    ∗ (∃ g : Vec F S8x32x512 .i32, owns (c : Thread nD τ) (Memref.whole cc0_scratch1) fullShare g) ∗ ∃ r, prngReg c r)

/-- The proof data: the arrays as the region finds them; each input's buffer left at its block, the output's at the
    tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (ins m c t)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk (ins m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body's memrefs at point `t`. -/
def args (t : Fin cfg0.N) : Args where
  a1 := st0_0 t
  a2 := st0_1 t
  a3 := st0_2 t
  a4 := st0_3 t
  a5 := st0_4 t
  a6 := st0_5 t
  a7 := Memref.whole cc0_scratch0
  a8 := Memref.whole cc0_scratch1

theorem coord_val (t : Fin cfg0.N) : (grid0.coords t 0).val = t.val := by
  have h : t.val < 36 := lt_of_lt_of_eq t.isLt N_0
  have h' := Pipeline.Grid.coords_val (G := grid0) t 0 (S := 1) (B := 36) (by decide) (by decide)
  omega

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5, body_eq]
  unfold Phi
  iintro ⟨⟨⟨%xp, %hxp, H7⟩, ⟨%g, H8⟩, Hp⟩, Ho, ⟨%d0, H1⟩, ⟨%d1, H2⟩, ⟨%d2, H3⟩, ⟨%d3, H4⟩, ⟨%d4, H5⟩, ⟨%d5, H6⟩⟩
  obtain ⟨xp', g', hxp', htri⟩ := tri_body (c := c) (A := args t) (I := ins m c t) (o := (dats m 0 c).before 5 t d5) (xp := xp) (g := g)
    (grid0.coords t) (Cert.Kernel.Gen.hstage0_5 ((cfg0.slots t 5).cast Cert.Kernel.Gen.nbuf0_5)) (Memref.isWhole_whole _) (Memref.isWhole_whole _)
    (fun h b => by rw [ins_x m c t t0]; exact hxp (by rwa [coord_val] at h) b)
  unfold Tri at htri
  have hw := fun Q' => (sep_mono_left htri).trans (wp_wand_r frame (wpE (defs₀ (F := F)) Variants.none c none) Set.univ (Q' := Q'))
  unfold Rs at hw
  iapply (hw _)
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %a ⟨-, H1, H2, H3, H4, H5, H6, H7, H8⟩
  isplitl [H7 H8 Hp]
  · isplitl [H7]
    · iexists xp'; isplitr
      · ipureintro; intro _ b; rw [ins_x m c t0 t]; exact hxp' b
      iexact H7
    isplitl [H8]
    · iexists g'; iexact H8
    iexact Hp
  isplitl [Ho]; · iexact Ho
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : (Pipeline.ΦA spec0 c : sProp 𝕄) ⊢ (dats m 0 c).Φ 0 := by
  rw [show (dats m 0 c).Φ 0 = Phi m c 0 from rfl]
  unfold Pipeline.ΦA Phi
  rw [scopedRest0_eq]
  simp only [owns_whole]
  iintro ⟨⟨⟨%f, H7⟩, ⟨%g, H8⟩⟩, Hp⟩
  isplitl [H7]
  · iexists f; isplitr
    · ipureintro; intro h; exact absurd rfl h
    iexact H7
  isplitl [H8]
  · iexists g; iexact H8
  iexact Hp

theorem phi_out (c : Dev nD) : (dats m 0 c).Φ (Fin.last cfg0.N) ⊢ (Pipeline.ΦA spec0 c : sProp 𝕄) := by
  rw [show (dats m 0 c).Φ (Fin.last cfg0.N) = Phi m c cfg0.N from rfl]
  unfold Pipeline.ΦA Phi
  rw [scopedRest0_eq]
  simp only [owns_whole]
  iintro ⟨⟨%f, -, H7⟩, ⟨%g, H8⟩, Hp⟩
  isplitl [H7 H8]
  · isplitl [H7]
    · iexists f; iexact H7
    iexists g; iexact H8
  iexact Hp

set_option backward.isDefEq.respectTransparency.types false in
set_option maxHeartbeats 800000 in
/-- The run: every array of the pipeline ends at what the proof data says, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end as they began, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.PK

end
-- ==== Proof.PI.Shape.lean ====
module

public import proofs.«01_k».proof.Proof.Gen.KernelIdeal
public import Idealize.ShloMosaic.Lib.Tactic

/-! The kernel's body, written once as a structured program: the order prologue of the first grid point, the scale
words, one block step for each block of the reduction and each half of the tile, and the stores. -/

@[expose] public section

set_option maxRecDepth 16384

noncomputable section

namespace Cert.Proof.PI

open Idealize.ShloMosaic Idealize.ShloMosaic.TcCoe
open Idealize.SL Idealize.SL.Sem
open Cert.KernelIdeal Cert.KernelIdeal.Facts₀ Cert.KernelIdeal.Facts

variable {F : FTy → Type} [FloatOps F]

abbrev Pr (α : Type) : Type _ := Prog (TpuEff nD τ sig (Elt F) Λ₀ .tc) α

/-! ## Where the steps read and write -/

theorem inbX (b : Fin 28) : ∀ a, (![0, 256 * b.val] : Fin 2 → Nat) a + S128x256.size a ≤ S128x7168.size a := by
  revert b; decide
theorem packX (b : Fin 28) : (Rect.unit (s := S128x7168) ![0, 256 * b.val] S128x256.size (inbX b)).PackedRows (EltTy.packing .bf16) := by
  revert b; decide
theorem inbQ (b : Fin 28) (m : Fin 2) : ∀ a, (![b.val, 0, 256 * m.val] : Fin 3 → Nat) a + S1x64x256.size a ≤ S28x64x512.size a := by
  revert b m; decide
theorem inbH (b : Fin 28) (m : Fin 2) : ∀ a, (![b.val, 0, 256 * m.val] : Fin 3 → Nat) a + S1x32x256.size a ≤ S28x32x512.size a := by
  revert b m; decide
theorem inbO (m : Fin 2) : ∀ a, (![0, 256 * m.val] : Fin 2 → Nat) a + S128x256.size a ≤ S128x512.size a := by
  revert m; decide
theorem packO (m : Fin 2) : (Rect.unit (s := S128x512) ![0, 256 * m.val] S128x256.size (inbO m)).PackedRows (EltTy.packing .bf16) := by
  revert m; decide
theorem inbS (r : Fin 12) : ∀ a, (![r.val, 0, 0] : Fin 3 → Nat) a + S1x28x512.size a ≤ S12x28x512.size a := by
  revert r; decide

theorem inbG (b : Fin 28) (m : Fin 2) : ∀ a, (![0, b.val, 0, 256 * m.val] : Fin 4 → Nat) a + S8x1x2x256.size a ≤ S8x32x2x512.size a := by
  revert b m; decide
theorem inbW (p : Fin 8) : ∀ a, (![p.val, 0, 0, 0] : Fin 4 → Nat) a + S1x28x2x512.size a ≤ S8x32x2x512.size a := by
  revert p; decide

/-! ## The values the body computes -/

/-- The matrix of the column order: one where row and column name the same activation, zero elsewhere. -/
def ordW : FVec F S256x256 .bf16 :=
  have v8365 : IVec S256x256 32 := iota .tc S256x256 32 [0] iota_S256x256_d0_w32
  have v8366 : IVec S256x256 32 := iota .tc S256x256 32 [1] iota_S256x256_d1_w32
  let c192_i32 : BitVec 32 := 192#32
  have v8367 : IVec S256x256 32 := broadcast S256x256 c192_i32
  have v8368 : IVec S256x256 32 := andi v8366 v8367
  let c128_i32 : BitVec 32 := 128#32
  have v8369 : IVec S256x256 32 := broadcast S256x256 c128_i32
  have v8370 : IVec S256x256 32 := divsi v8368 v8369
  let c0_i32_1892 : BitVec 32 := 0#32
  have v8371 : IVec S256x256 32 := broadcast S256x256 c0_i32_1892
  have v8372 : IVec S256x256 1 := cmpi .sgt v8368 v8371
  have v8373 : IVec S256x256 32 := extui 32 v8372 natLt_1_32
  let c0_i32_1893 : BitVec 32 := 0#32
  have v8374 : IVec S256x256 32 := broadcast S256x256 c0_i32_1893
  have v8375 : IVec S256x256 1 := cmpi .slt v8368 v8374
  have v8376 : IVec S256x256 32 := extui 32 v8375 natLt_1_32
  have v8377 : IVec S256x256 32 := subi v8373 v8376
  let c0_i32_1894 : BitVec 32 := 0#32
  let v8378 : BitVec 1 := Scalar.cmpi .sgt c128_i32 c0_i32_1894
  let v8379 : BitVec 32 := Scalar.extui v8378
  let c0_i32_1895 : BitVec 32 := 0#32
  let v8380 : BitVec 1 := Scalar.cmpi .slt c128_i32 c0_i32_1895
  let v8381 : BitVec 32 := Scalar.extui v8380
  let v8382 : BitVec 32 := Scalar.subi v8379 v8381
  have v8383 : IVec S256x256 32 := broadcast S256x256 v8382
  have v8384 : IVec S256x256 1 := cmpi .ne v8377 v8383
  have v8385 : IVec S256x256 32 := broadcast S256x256 c128_i32
  have v8386 : IVec S256x256 32 := remsi v8368 v8385
  let c0_i32_1896 : BitVec 32 := 0#32
  have v8387 : IVec S256x256 32 := broadcast S256x256 c0_i32_1896
  have v8388 : IVec S256x256 1 := cmpi .ne v8386 v8387
  have v8389 : IVec S256x256 1 := andi v8384 v8388
  let c1_i32_1897 : BitVec 32 := 1#32
  have v8390 : IVec S256x256 32 := broadcast S256x256 c1_i32_1897
  have v8391 : IVec S256x256 32 := subi v8370 v8390
  have v8392 : IVec S256x256 32 := select v8389 v8391 v8370
  let c128_i32_1898 : BitVec 32 := 128#32
  have v8393 : IVec S256x256 32 := broadcast S256x256 c128_i32_1898
  have v8394 : IVec S256x256 32 := muli v8392 v8393
  let c1_i32_1899 : BitVec 32 := 1#32
  have v8395 : IVec S256x256 32 := broadcast S256x256 c1_i32_1899
  have v8396 : IVec S256x256 32 := andi v8366 v8395
  let c64_i32 : BitVec 32 := 64#32
  have v8397 : IVec S256x256 32 := broadcast S256x256 c64_i32
  have v8398 : IVec S256x256 32 := muli v8396 v8397
  have v8399 : IVec S256x256 32 := addi v8394 v8398
  let c64_i32_1900 : BitVec 32 := 64#32
  have v8400 : IVec S256x256 32 := broadcast S256x256 c64_i32_1900
  have v8401 : IVec S256x256 32 := andi v8366 v8400
  let c64_i32_1901 : BitVec 32 := 64#32
  have v8402 : IVec S256x256 32 := broadcast S256x256 c64_i32_1901
  have v8403 : IVec S256x256 32 := divsi v8401 v8402
  let c0_i32_1902 : BitVec 32 := 0#32
  have v8404 : IVec S256x256 32 := broadcast S256x256 c0_i32_1902
  have v8405 : IVec S256x256 1 := cmpi .sgt v8401 v8404
  have v8406 : IVec S256x256 32 := extui 32 v8405 natLt_1_32
  let c0_i32_1903 : BitVec 32 := 0#32
  have v8407 : IVec S256x256 32 := broadcast S256x256 c0_i32_1903
  have v8408 : IVec S256x256 1 := cmpi .slt v8401 v8407
  have v8409 : IVec S256x256 32 := extui 32 v8408 natLt_1_32
  have v8410 : IVec S256x256 32 := subi v8406 v8409
  let c0_i32_1904 : BitVec 32 := 0#32
  let v8411 : BitVec 1 := Scalar.cmpi .sgt c64_i32_1901 c0_i32_1904
  let v8412 : BitVec 32 := Scalar.extui v8411
  let c0_i32_1905 : BitVec 32 := 0#32
  let v8413 : BitVec 1 := Scalar.cmpi .slt c64_i32_1901 c0_i32_1905
  let v8414 : BitVec 32 := Scalar.extui v8413
  let v8415 : BitVec 32 := Scalar.subi v8412 v8414
  have v8416 : IVec S256x256 32 := broadcast S256x256 v8415
  have v8417 : IVec S256x256 1 := cmpi .ne v8410 v8416
  have v8418 : IVec S256x256 32 := broadcast S256x256 c64_i32_1901
  have v8419 : IVec S256x256 32 := remsi v8401 v8418
  let c0_i32_1906 : BitVec 32 := 0#32
  have v8420 : IVec S256x256 32 := broadcast S256x256 c0_i32_1906
  have v8421 : IVec S256x256 1 := cmpi .ne v8419 v8420
  have v8422 : IVec S256x256 1 := andi v8417 v8421
  let c1_i32_1907 : BitVec 32 := 1#32
  have v8423 : IVec S256x256 32 := broadcast S256x256 c1_i32_1907
  have v8424 : IVec S256x256 32 := subi v8403 v8423
  have v8425 : IVec S256x256 32 := select v8422 v8424 v8403
  let c32_i32_1908 : BitVec 32 := 32#32
  have v8426 : IVec S256x256 32 := broadcast S256x256 c32_i32_1908
  have v8427 : IVec S256x256 32 := muli v8425 v8426
  have v8428 : IVec S256x256 32 := addi v8399 v8427
  let c63_i32 : BitVec 32 := 63#32
  have v8429 : IVec S256x256 32 := broadcast S256x256 c63_i32
  have v8430 : IVec S256x256 32 := andi v8366 v8429
  let c2_i32_1909 : BitVec 32 := 2#32
  have v8431 : IVec S256x256 32 := broadcast S256x256 c2_i32_1909
  have v8432 : IVec S256x256 32 := divsi v8430 v8431
  let c0_i32_1910 : BitVec 32 := 0#32
  have v8433 : IVec S256x256 32 := broadcast S256x256 c0_i32_1910
  have v8434 : IVec S256x256 1 := cmpi .sgt v8430 v8433
  have v8435 : IVec S256x256 32 := extui 32 v8434 natLt_1_32
  let c0_i32_1911 : BitVec 32 := 0#32
  have v8436 : IVec S256x256 32 := broadcast S256x256 c0_i32_1911
  have v8437 : IVec S256x256 1 := cmpi .slt v8430 v8436
  have v8438 : IVec S256x256 32 := extui 32 v8437 natLt_1_32
  have v8439 : IVec S256x256 32 := subi v8435 v8438
  let c0_i32_1912 : BitVec 32 := 0#32
  let v8440 : BitVec 1 := Scalar.cmpi .sgt c2_i32_1909 c0_i32_1912
  let v8441 : BitVec 32 := Scalar.extui v8440
  let c0_i32_1913 : BitVec 32 := 0#32
  let v8442 : BitVec 1 := Scalar.cmpi .slt c2_i32_1909 c0_i32_1913
  let v8443 : BitVec 32 := Scalar.extui v8442
  let v8444 : BitVec 32 := Scalar.subi v8441 v8443
  have v8445 : IVec S256x256 32 := broadcast S256x256 v8444
  have v8446 : IVec S256x256 1 := cmpi .ne v8439 v8445
  have v8447 : IVec S256x256 32 := broadcast S256x256 c2_i32_1909
  have v8448 : IVec S256x256 32 := remsi v8430 v8447
  let c0_i32_1914 : BitVec 32 := 0#32
  have v8449 : IVec S256x256 32 := broadcast S256x256 c0_i32_1914
  have v8450 : IVec S256x256 1 := cmpi .ne v8448 v8449
  have v8451 : IVec S256x256 1 := andi v8446 v8450
  let c1_i32_1915 : BitVec 32 := 1#32
  have v8452 : IVec S256x256 32 := broadcast S256x256 c1_i32_1915
  have v8453 : IVec S256x256 32 := subi v8432 v8452
  have v8454 : IVec S256x256 32 := select v8451 v8453 v8432
  have v8455 : IVec S256x256 32 := addi v8428 v8454
  have v8456 : IVec S256x256 1 := cmpi .eq v8365 v8455
  have cst_1916 : F .f32 := Scalar.ofBits .f32 0x3F800000#32
  have cst_1917 : F .f32 := Scalar.ofBits .f32 0x00000000#32
  have v8457 : FVec F S256x256 .f32 := broadcast S256x256 cst_1916
  have v8458 : FVec F S256x256 .f32 := broadcast S256x256 cst_1917
  have v8459 : FVec F S256x256 .f32 := select v8456 v8457 v8458
  have v8460 : FVec F S256x256 .bf16 := truncf .bf16 v8459 bitsLt_bf16_f32
  v8460

/-- The half-precision scale of each row, as single precision, from its bit pattern. -/
def half (v3 : Vec F S28x512 .i16) : FVec F S28x512 .f32 :=
  have v4 : IVec S28x512 16 := shapeCast S28x512 v3 shapeCasts_S28x512_S28x512
  have v5 : IVec S28x512 32 := extsi 32 v4 natLt_16_32
  let c32767_i32 : BitVec 32 := 32767#32
  have v6 : IVec S28x512 32 := broadcast S28x512 c32767_i32
  have v7 : IVec S28x512 32 := andi v5 v6
  let c32768_i32 : BitVec 32 := 32768#32
  have v8 : IVec S28x512 32 := broadcast S28x512 c32768_i32
  have v9 : IVec S28x512 32 := andi v5 v8
  let c16_i32 : BitVec 32 := 16#32
  have v10 : IVec S28x512 32 := broadcast S28x512 c16_i32
  have v11 : IVec S28x512 32 := shli v9 v10
  let c13_i32 : BitVec 32 := 13#32
  have v12 : IVec S28x512 32 := broadcast S28x512 c13_i32
  have v13 : IVec S28x512 32 := shli v7 v12
  let c931135488_i32 : BitVec 32 := 931135488#32
  have v14 : IVec S28x512 32 := broadcast S28x512 c931135488_i32
  have v15 : IVec S28x512 32 := addi v13 v14
  have v16 : IVec S28x512 32 := ori v15 v11
  have v17 : FVec F S28x512 .f32 := bitcastToFloat .f32 v16
  let c13_i32_2 : BitVec 32 := 13#32
  have v18 : IVec S28x512 32 := broadcast S28x512 c13_i32_2
  have v19 : IVec S28x512 32 := shli v7 v18
  let c2139095040_i32 : BitVec 32 := 2139095040#32
  have v20 : IVec S28x512 32 := broadcast S28x512 c2139095040_i32
  have v21 : IVec S28x512 32 := ori v19 v20
  have v22 : IVec S28x512 32 := ori v21 v11
  have v23 : FVec F S28x512 .f32 := bitcastToFloat .f32 v22
  have v24 : FVec F S28x512 .f32 := sitofp .f32 v7
  have cst : F .f32 := Scalar.ofBits .f32 0x33000000#32
  have v25 : FVec F S28x512 .f32 := broadcast S28x512 cst
  have v26 : FVec F S28x512 .f32 := mulf v24 v25
  let c0_i32_3 : BitVec 32 := 0#32
  have v27 : IVec S28x512 32 := broadcast S28x512 c0_i32_3
  have v28 : IVec S28x512 1 := cmpi .ne v11 v27
  have cst_4 : F .f32 := Scalar.ofBits .f32 0x00000000#32
  have v29 : FVec F S28x512 .f32 := broadcast S28x512 cst_4
  have v30 : FVec F S28x512 .f32 := subf v29 v26
  have v31 : FVec F S28x512 .f32 := select v28 v30 v26
  let c1024_i32 : BitVec 32 := 1024#32
  have v32 : IVec S28x512 32 := broadcast S28x512 c1024_i32
  have v33 : IVec S28x512 1 := cmpi .slt v7 v32
  let c31744_i32 : BitVec 32 := 31744#32
  have v34 : IVec S28x512 32 := broadcast S28x512 c31744_i32
  have v35 : IVec S28x512 1 := cmpi .slt v7 v34
  have v36 : FVec F S28x512 .f32 := select v35 v17 v23
  have v37 : FVec F S28x512 .f32 := select v33 v31 v36
  v37

/-- One plane of the packed scales, each entry widened. -/
def plane (r : Vec F S1x28x512 .i8) : IVec S28x512 32 :=
  extui 32 (shapeCast S28x512 r shapeCasts_S1x28x512_S28x512) natLt_8_32

/-- One group's scale: the six bits taken from the low plane and the high plane, less 32, times the row's scale. -/
def grp (v37 : FVec F S28x512 .f32) (lo hi : Vec F S1x28x512 .i8) (sl sh : BitVec 32) : FVec F S28x512 .f32 :=
  mulf v37 (sitofp .f32 (subi
    (ori (andi (shrsi (plane lo) (broadcast S28x512 sl)) (broadcast S28x512 15#32))
      (shli (andi (shrsi (plane hi) (broadcast S28x512 sh)) (broadcast S28x512 3#32)) (broadcast S28x512 4#32)))
    (broadcast S28x512 32#32)))

/-- Two groups' scales as the rows of one plane of the scale buffer, the first at the even rows. -/
def word (x y : FVec F S28x512 .f32) : Vec F S1x28x2x512 .bf16 :=
  interleaveRows S1x28x2x512
    (shapeCast S1x28x1x512 (shapeCast S1x28x512 (truncf .bf16 x bitsLt_bf16_f32) shapeCasts_S28x512_S1x28x512) shapeCasts_S1x28x512_S1x28x1x512)
    (shapeCast S1x28x1x512 (shapeCast S1x28x512 (truncf .bf16 y bitsLt_bf16_f32) shapeCasts_S28x512_S1x28x512) shapeCasts_S1x28x512_S1x28x1x512)
    bitcasts_S1x28x2x512_w16_S1x28x1x512_w32

/-- The four words of each row's codes: from the low bits and the high bit of each weight, its four-bit code. -/
def codes (v638 : Vec F S1x64x256 .i8) (v641 : Vec F S1x32x256 .i8) : Fin 4 → IVec S8x256 32 :=
  have v639 : IVec S64x256 8 := shapeCast S64x256 v638 shapeCasts_S1x64x256_S64x256
  have v640 : IVec S16x256 32 := bitcast S16x256 32 v639 bitcasts_S64x256_w8_S16x256_w32
  have v642 : IVec S32x256 8 := shapeCast S32x256 v641 shapeCasts_S1x32x256_S32x256
  have v643 : IVec S8x256 32 := bitcast S8x256 32 v642 bitcasts_S32x256_w8_S8x256_w32
  have v644 : IVec S8x256 32 := extractStridedSlice S8x256 ![0, 0] v640 slices_S16x256_o0_0_S8x256
  have v645 : IVec S8x256 32 := extractStridedSlice S8x256 ![8, 0] v640 slices_S16x256_o8_0_S8x256
  let c2_i32_211 : BitVec 32 := 2#32
  have v646 : IVec S8x256 32 := broadcast S8x256 c2_i32_211
  have v647 : IVec S8x256 32 := shrui v643 v646
  have v648 : IVec S8x256 32 := xori v647 v643
  let c202116108_i32_212 : BitVec 32 := 202116108#32
  have v649 : IVec S8x256 32 := broadcast S8x256 c202116108_i32_212
  have v650 : IVec S8x256 32 := andi v648 v649
  have v651 : IVec S8x256 32 := xori v643 v650
  let c2_i32_213 : BitVec 32 := 2#32
  have v652 : IVec S8x256 32 := broadcast S8x256 c2_i32_213
  have v653 : IVec S8x256 32 := shli v650 v652
  have v654 : IVec S8x256 32 := xori v651 v653
  have cst_214 : IVec S8x256 32 := constantI S8x256 32 4294967295#32
  have v655 : IVec S8x256 32 := xori v654 cst_214
  let c2_i32_215 : BitVec 32 := 2#32
  have v656 : IVec S8x256 32 := broadcast S8x256 c2_i32_215
  have v657 : IVec S8x256 32 := shli v655 v656
  let c858993459_i32_216 : BitVec 32 := 858993459#32
  have v658 : IVec S8x256 32 := broadcast S8x256 c858993459_i32_216
  have v659 : IVec S8x256 32 := andi v644 v658
  let c1145324612_i32_217 : BitVec 32 := 1145324612#32
  have v660 : IVec S8x256 32 := broadcast S8x256 c1145324612_i32_217
  have v661 : IVec S8x256 32 := andi v657 v660
  have v662 : IVec S8x256 32 := ori v659 v661
  let c1_i32_218 : BitVec 32 := 1#32
  have v663 : IVec S8x256 32 := broadcast S8x256 c1_i32_218
  have v664 : IVec S8x256 32 := shli v662 v663
  let c1_i32_219 : BitVec 32 := 1#32
  have v665 : IVec S8x256 32 := broadcast S8x256 c1_i32_219
  have v666 : IVec S8x256 32 := shrui v644 v665
  let c1717986918_i32_220 : BitVec 32 := 1717986918#32
  have v667 : IVec S8x256 32 := broadcast S8x256 c1717986918_i32_220
  have v668 : IVec S8x256 32 := andi v666 v667
  let c_m2004318072_i32_221 : BitVec 32 := 2290649224#32
  have v669 : IVec S8x256 32 := broadcast S8x256 c_m2004318072_i32_221
  have v670 : IVec S8x256 32 := andi v657 v669
  have v671 : IVec S8x256 32 := ori v668 v670
  let c858993459_i32_222 : BitVec 32 := 858993459#32
  have v672 : IVec S8x256 32 := broadcast S8x256 c858993459_i32_222
  have v673 : IVec S8x256 32 := andi v645 v672
  let c1145324612_i32_223 : BitVec 32 := 1145324612#32
  have v674 : IVec S8x256 32 := broadcast S8x256 c1145324612_i32_223
  have v675 : IVec S8x256 32 := andi v655 v674
  have v676 : IVec S8x256 32 := ori v673 v675
  let c1_i32_224 : BitVec 32 := 1#32
  have v677 : IVec S8x256 32 := broadcast S8x256 c1_i32_224
  have v678 : IVec S8x256 32 := shli v676 v677
  let c1_i32_225 : BitVec 32 := 1#32
  have v679 : IVec S8x256 32 := broadcast S8x256 c1_i32_225
  have v680 : IVec S8x256 32 := shrui v645 v679
  let c1717986918_i32_226 : BitVec 32 := 1717986918#32
  have v681 : IVec S8x256 32 := broadcast S8x256 c1717986918_i32_226
  have v682 : IVec S8x256 32 := andi v680 v681
  let c_m2004318072_i32_227 : BitVec 32 := 2290649224#32
  have v683 : IVec S8x256 32 := broadcast S8x256 c_m2004318072_i32_227
  have v684 : IVec S8x256 32 := andi v655 v683
  have v685 : IVec S8x256 32 := ori v682 v684
  ![v664, v671, v678, v685]

/-- The left shifts that bring the eight nibbles of a word to its top. -/
def left : IVec S8x8x256 32 :=
  have v346 : IVec S8x8x256 32 := iota .tc S8x8x256 32 [1] iota_S8x8x256_d1_w32
  let c4_i32_144 : BitVec 32 := 4#32
  have v347 : IVec S8x8x256 32 := broadcast S8x8x256 c4_i32_144
  have v348 : IVec S8x8x256 32 := muli v347 v346
  let c28_i32 : BitVec 32 := 28#32
  have v349 : IVec S8x8x256 32 := broadcast S8x8x256 c28_i32
  have v350 : IVec S8x8x256 32 := subi v349 v348
  v350

/-- The eight signed nibbles of each word, as numbers. -/
def nib (c : IVec S8x256 32) : FVec F S64x256 .bf16 :=
  sitofp .bf16 (shapeCast S64x256 (shrsi (shli (broadcastTo S8x8x256 (shapeCast S8x1x256 c shapeCasts_S8x256_S8x1x256) broadcasts_S8x1x256_S8x8x256) left)
    (broadcast S8x8x256 28#32)) shapeCasts_S8x8x256_S64x256)

/-- A row eight times over. -/
def rep8 (v : FVec F S1x256 .bf16) : FVec F S8x256 .bf16 :=
  concatenate S8x256 0 [⟨S1x256, v⟩, ⟨S1x256, v⟩, ⟨S1x256, v⟩, ⟨S1x256, v⟩, ⟨S1x256, v⟩, ⟨S1x256, v⟩, ⟨S1x256, v⟩, ⟨S1x256, v⟩] concatenates_S1x256_S1x256_S1x256_S1x256_S1x256_S1x256_S1x256_S1x256_S8x256_d0

/-- The scales of sixteen rows: one plane's two scales, by turns. -/
def scl (raw : Vec F S8x1x2x256 .bf16) (o : Fin 3 → Nat) (h : S8x1x256.Slices o S1x1x256) : FVec F S16x256 .bf16 :=
  interleaveRows S16x256
    (rep8 (shapeCast S1x256 (extractStridedSlice S1x1x256 o (shapeCast S8x1x256 (rowsOfParity 0 S8x1x1x256 raw bitcasts_S8x1x2x256_w16_S8x1x1x256_w32) shapeCasts_S8x1x1x256_S8x1x256) h) shapeCasts_S1x1x256_S1x256))
    (rep8 (shapeCast S1x256 (extractStridedSlice S1x1x256 o (shapeCast S8x1x256 (rowsOfParity 1 S8x1x1x256 raw bitcasts_S8x1x2x256_w16_S8x1x1x256_w32) shapeCasts_S8x1x1x256_S8x1x256) h) shapeCasts_S1x1x256_S1x256))
    bitcasts_S16x256_w16_S8x256_w32

/-- Sixteen rows of the weights: nibbles times scales. -/
def rows16 (n : FVec F S64x256 .bf16) (s : FVec F S16x256 .bf16) (o : Fin 2 → Nat) (h : S64x256.Slices o S16x256) : FVec F S16x256 .bf16 :=
  mulf (extractStridedSlice S16x256 o n h) s

/-- The weights of one block and one half of the tile. -/
def wfn (raw : Vec F S8x1x2x256 .bf16) (q : Vec F S1x64x256 .i8) (h : Vec F S1x32x256 .i8) : FVec F S256x256 .bf16 :=
  concatenate S256x256 0 [⟨S16x256, rows16 (nib (codes q h 0)) (scl raw ![0, 0, 0] slices_S8x1x256_o0_0_0_S1x1x256) ![0, 0] slices_S64x256_o0_0_S16x256⟩,
    ⟨S16x256, rows16 (nib (codes q h 0)) (scl raw ![0, 0, 0] slices_S8x1x256_o0_0_0_S1x1x256) ![16, 0] slices_S64x256_o16_0_S16x256⟩,
    ⟨S16x256, rows16 (nib (codes q h 0)) (scl raw ![1, 0, 0] slices_S8x1x256_o1_0_0_S1x1x256) ![32, 0] slices_S64x256_o32_0_S16x256⟩,
    ⟨S16x256, rows16 (nib (codes q h 0)) (scl raw ![1, 0, 0] slices_S8x1x256_o1_0_0_S1x1x256) ![48, 0] slices_S64x256_o48_0_S16x256⟩,
    ⟨S16x256, rows16 (nib (codes q h 1)) (scl raw ![2, 0, 0] slices_S8x1x256_o2_0_0_S1x1x256) ![0, 0] slices_S64x256_o0_0_S16x256⟩,
    ⟨S16x256, rows16 (nib (codes q h 1)) (scl raw ![2, 0, 0] slices_S8x1x256_o2_0_0_S1x1x256) ![16, 0] slices_S64x256_o16_0_S16x256⟩,
    ⟨S16x256, rows16 (nib (codes q h 1)) (scl raw ![3, 0, 0] slices_S8x1x256_o3_0_0_S1x1x256) ![32, 0] slices_S64x256_o32_0_S16x256⟩,
    ⟨S16x256, rows16 (nib (codes q h 1)) (scl raw ![3, 0, 0] slices_S8x1x256_o3_0_0_S1x1x256) ![48, 0] slices_S64x256_o48_0_S16x256⟩,
    ⟨S16x256, rows16 (nib (codes q h 2)) (scl raw ![4, 0, 0] slices_S8x1x256_o4_0_0_S1x1x256) ![0, 0] slices_S64x256_o0_0_S16x256⟩,
    ⟨S16x256, rows16 (nib (codes q h 2)) (scl raw ![4, 0, 0] slices_S8x1x256_o4_0_0_S1x1x256) ![16, 0] slices_S64x256_o16_0_S16x256⟩,
    ⟨S16x256, rows16 (nib (codes q h 2)) (scl raw ![5, 0, 0] slices_S8x1x256_o5_0_0_S1x1x256) ![32, 0] slices_S64x256_o32_0_S16x256⟩,
    ⟨S16x256, rows16 (nib (codes q h 2)) (scl raw ![5, 0, 0] slices_S8x1x256_o5_0_0_S1x1x256) ![48, 0] slices_S64x256_o48_0_S16x256⟩,
    ⟨S16x256, rows16 (nib (codes q h 3)) (scl raw ![6, 0, 0] slices_S8x1x256_o6_0_0_S1x1x256) ![0, 0] slices_S64x256_o0_0_S16x256⟩,
    ⟨S16x256, rows16 (nib (codes q h 3)) (scl raw ![6, 0, 0] slices_S8x1x256_o6_0_0_S1x1x256) ![16, 0] slices_S64x256_o16_0_S16x256⟩,
    ⟨S16x256, rows16 (nib (codes q h 3)) (scl raw ![7, 0, 0] slices_S8x1x256_o7_0_0_S1x1x256) ![32, 0] slices_S64x256_o32_0_S16x256⟩,
    ⟨S16x256, rows16 (nib (codes q h 3)) (scl raw ![7, 0, 0] slices_S8x1x256_o7_0_0_S1x1x256) ![48, 0] slices_S64x256_o48_0_S16x256⟩] concatenates_S16x256_S16x256_S16x256_S16x256_S16x256_S16x256_S16x256_S16x256_S16x256_S16x256_S16x256_S16x256_S16x256_S16x256_S16x256_S16x256_S256x256_d0

/-! ## The steps -/

/-- Unit `q` of the matrix unit for block `b` of the order prologue. -/
abbrev unitOf (b : Fin 28) : Fin 2 := ⟨b.val % 2, Nat.mod_lt _ (by decide)⟩

/-- One block's columns, read off the activations or the reordered activations. -/
abbrev rX (b : Fin 28) : Rect S128x7168 := Rect.unit (s := S128x7168) ![0, 256 * b.val] S128x256.size (inbX b)
abbrev rQ (b : Fin 28) (m : Fin 2) : Rect S28x64x512 := Rect.unit (s := S28x64x512) ![b.val, 0, 256 * m.val] S1x64x256.size (inbQ b m)
abbrev rH (b : Fin 28) (m : Fin 2) : Rect S28x32x512 := Rect.unit (s := S28x32x512) ![b.val, 0, 256 * m.val] S1x32x256.size (inbH b m)
abbrev rO (m : Fin 2) : Rect S128x512 := Rect.unit (s := S128x512) ![0, 256 * m.val] S128x256.size (inbO m)
abbrev rS (r : Fin 12) : Rect S12x28x512 := Rect.unit (s := S12x28x512) ![r.val, 0, 0] S1x28x512.size (inbS r)
abbrev rD : Rect S28x512 := Rect.unit (s := S28x512) ![0, 0] S28x512.size inb_S28x512_S28x512_0_0

abbrev rG (b : Fin 28) (m : Fin 2) : Rect S8x32x2x512 := Rect.unit (s := S8x32x2x512) ![0, b.val, 0, 256 * m.val] S8x1x2x256.size (inbG b m)
abbrev rW (p : Fin 8) : Rect S8x32x2x512 := Rect.unit (s := S8x32x2x512) ![p.val, 0, 0, 0] S1x28x2x512.size (inbW p)

/-- What one block of the order prologue does after its product: the product out of the matrix unit, narrowed, and
    stored as the block's reordered columns. -/
def ordTail (b : Fin 28) (arg7 : Memref sig .tc .vmem S128x7168 .bf16) (harg7 : arg7.IsWhole) (s : Mxu F) : Pr (F := F) (Mxu F) := do
  let v := s.read (unitOf b) 0 fits_0_128
  let _old : Vec F S128x256 .bf16 ← Prog.lift (.load arg7 (rX b).toLoadRect (View.loadsAt_vmem h_S128x256))
  Prog.lift (.store arg7 (rX b) (shapeCast S128x256 (truncf .bf16 v bitsLt_bf16_f32) shapeCasts_S128x256_S128x256 : FVec F S128x256 .bf16) Finset.univ
    (View.stores_vmem h_S128x256 (harg7.storeExact_slice rfl _ (packX b)) (fun _ => rfl)) (.inl rfl))
  pure (s.pop (unitOf b) 0 128 fits_0_128)

/-- One of the first two blocks of the order prologue: its unit takes the matrix from the staging register. -/
def ordStep0 (b : Fin 28) (arg1 arg7 : Memref sig .tc .vmem S128x7168 .bf16) (harg7 : arg7.IsWhole) (s : Mxu F) : Pr (F := F) (Mxu F) := do
  let x : Vec F S128x256 .bf16 ← Prog.lift (.load arg1 (rX b).toLoadRect (View.loadsAt_vmem h_S128x256))
  ordTail b arg7 harg7 (s.accLhs (unitOf b) 0 0 (shapeCast S128x256 x shapeCasts_S128x256_S128x256 : FVec F S128x256 .bf16) fits_0_128)

/-- One later block of the order prologue: its unit has the matrix loaded. -/
def ordStep1 (b : Fin 28) (arg1 arg7 : Memref sig .tc .vmem S128x7168 .bf16) (harg7 : arg7.IsWhole) (s : Mxu F) : Pr (F := F) (Mxu F) := do
  let x : Vec F S128x256 .bf16 ← Prog.lift (.load arg1 (rX b).toLoadRect (View.loadsAt_vmem h_S128x256))
  let s ← s.accLhsLoaded (unitOf b) 0 (shapeCast S128x256 x shapeCasts_S128x256_S128x256 : FVec F S128x256 .bf16) fits_0_128
  ordTail b arg7 harg7 s

/-- The later blocks of the order prologue in turn. -/
def ordLoop (arg1 arg7 : Memref sig .tc .vmem S128x7168 .bf16) (harg7 : arg7.IsWhole) : List (Fin 28) → Mxu F → Pr (F := F) (Mxu F)
  | [], s => pure s
  | b :: bs, s => ordStep1 b arg1 arg7 harg7 s >>= ordLoop arg1 arg7 harg7 bs

/-- The blocks from the third on. -/
def lateBlocks : List (Fin 28) := [⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩]
/-- All blocks. -/
def allBlocks : List (Fin 28) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩]

/-- The order prologue. -/
def ordAll (arg1 arg7 : Memref sig .tc .vmem S128x7168 .bf16) (harg7 : arg7.IsWhole) : Pr (F := F) (Mxu F) := do
  let s ← Mxu.init.pushRhs 0 0 false ordW
  let s ← s.pushRhs 1 0 false ordW
  let s ← ordStep0 0 arg1 arg7 harg7 s
  let s ← ordStep0 1 arg1 arg7 harg7 s
  ordLoop arg1 arg7 harg7 lateBlocks s

/-- One plane of the scale buffer written. -/
def putWord (p : Fin 8) (arg8 : Memref sig .tc .vmem S8x32x2x512 .bf16) (harg8 : arg8.IsWhole) (w : Vec F S1x28x2x512 .bf16) : Pr (F := F) PUnit := do
  let _old : Vec F S1x28x2x512 .bf16 ← Prog.lift (.load arg8 (rW p).toLoadRect (View.loadsAt_vmem h_S1x28x2x512))
  Prog.lift (.store arg8 (rW p) w Finset.univ (View.stores_vmem h_S1x28x2x512 ((harg8.pairWhole rank2_S8x32x2x512).storeExact_slice rfl _ (Rect.wholeRows_unit rank2_S8x32x2x512 rfl rfl) pairs_S8x32x2x512_bf16) (fun _ => rfl)) (.inl rfl))

/-- One plane of the packed scales read. -/
def getPlane (r : Fin 12) (arg4 : Memref sig .tc .vmem S12x28x512 .i8) : Pr (F := F) (Vec F S1x28x512 .i8) :=
  Prog.lift (.load arg4 (rS r).toLoadRect (View.loadsAt_vmem h_S1x28x512))

/-- The scale buffer filled. -/
def prep (arg4 : Memref sig .tc .vmem S12x28x512 .i8) (arg5 : Memref sig .tc .vmem S28x512 .i16)
    (arg8 : Memref sig .tc .vmem S8x32x2x512 .bf16) (harg8 : arg8.IsWhole) : Pr (F := F) PUnit := do
  let d : Vec F S28x512 .i16 ← Prog.lift (.load arg5 rD.toLoadRect (View.loadsAt_vmem h_S28x512))
  let r0 ← getPlane 0 arg4
  let r1 ← getPlane 1 arg4
  let r2 ← getPlane 2 arg4
  let r3 ← getPlane 3 arg4
  let r4 ← getPlane 4 arg4
  let r5 ← getPlane 5 arg4
  let r6 ← getPlane 6 arg4
  let r7 ← getPlane 7 arg4
  let r8 ← getPlane 8 arg4
  let r9 ← getPlane 9 arg4
  let r10 ← getPlane 10 arg4
  let r11 ← getPlane 11 arg4
  putWord 0 arg8 harg8 (word (grp (half d) r0 r8 0#32 0#32) (grp (half d) r4 r8 0#32 2#32))
  putWord 1 arg8 harg8 (word (grp (half d) r1 r9 0#32 0#32) (grp (half d) r5 r9 0#32 2#32))
  putWord 2 arg8 harg8 (word (grp (half d) r2 r10 0#32 0#32) (grp (half d) r6 r10 0#32 2#32))
  putWord 3 arg8 harg8 (word (grp (half d) r3 r11 0#32 0#32) (grp (half d) r7 r11 0#32 2#32))
  putWord 4 arg8 harg8 (word (grp (half d) r0 r8 4#32 4#32) (grp (half d) r4 r8 4#32 6#32))
  putWord 5 arg8 harg8 (word (grp (half d) r1 r9 4#32 4#32) (grp (half d) r5 r9 4#32 6#32))
  putWord 6 arg8 harg8 (word (grp (half d) r2 r10 4#32 4#32) (grp (half d) r6 r10 4#32 6#32))
  putWord 7 arg8 harg8 (word (grp (half d) r3 r11 4#32 4#32) (grp (half d) r7 r11 4#32 6#32))

/-- One block's step for one half of the tile: its weights into the matrix unit, times the block's reordered columns,
    onto the unit's sums. -/
def step (b : Fin 28) (m : Fin 2) (arg2 : Memref sig .tc .vmem S28x32x512 .i8) (arg3 : Memref sig .tc .vmem S28x64x512 .i8)
    (arg7 : Memref sig .tc .vmem S128x7168 .bf16) (arg8 : Memref sig .tc .vmem S8x32x2x512 .bf16) (s : Mxu F) : Pr (F := F) (Mxu F) := do
  let raw : Vec F S8x1x2x256 .bf16 ← Prog.lift (.load arg8 (rG b m).toLoadRect (View.loadsAt_vmem h_S8x1x2x256))
  let q : Vec F S1x64x256 .i8 ← Prog.lift (.load arg3 (rQ b m).toLoadRect (View.loadsAt_vmem h_S1x64x256))
  let h : Vec F S1x32x256 .i8 ← Prog.lift (.load arg2 (rH b m).toLoadRect (View.loadsAt_vmem h_S1x32x256))
  let s ← s.pushRhs m 0 false (wfn raw q h)
  let x : Vec F S128x256 .bf16 ← Prog.lift (.load arg7 (rX b).toLoadRect (View.loadsAt_vmem h_S128x256))
  pure (s.accLhs m 0 0 x fits_0_128)

/-- The blocks in turn, each for both halves of the tile. -/
def stepLoop (arg2 : Memref sig .tc .vmem S28x32x512 .i8) (arg3 : Memref sig .tc .vmem S28x64x512 .i8)
    (arg7 : Memref sig .tc .vmem S128x7168 .bf16) (arg8 : Memref sig .tc .vmem S8x32x2x512 .bf16) : List (Fin 28) → Mxu F → Pr (F := F) (Mxu F)
  | [], s => pure s
  | b :: bs, s => do
    let s ← step b 0 arg2 arg3 arg7 arg8 s
    let s ← step b 1 arg2 arg3 arg7 arg8 s
    stepLoop arg2 arg3 arg7 arg8 bs s

/-- One half of the tile out of the matrix unit, narrowed and stored. -/
def putOut (m : Fin 2) (arg6 : Memref sig .tc .vmem S128x512 .bf16) (harg6 : arg6.IsWhole) (s : Mxu F) : Pr (F := F) (Mxu F) := do
  let _old : Vec F S128x256 .bf16 ← Prog.lift (.load arg6 (rO m).toLoadRect (View.loadsAt_vmem h_S128x256))
  Prog.lift (.store arg6 (rO m) (truncf .bf16 (s.read m 0 fits_0_128) bitsLt_bf16_f32 : FVec F S128x256 .bf16) Finset.univ
    (View.stores_vmem h_S128x256 (harg6.storeExact_slice rfl _ (packO m)) (fun _ => rfl)) (.inl rfl))
  pure (s.pop m 0 128 fits_0_128)

/-- The order prologue at the first grid point, nothing at any other. -/
def start (i : grid0.Coords) (arg1 arg7 : Memref sig .tc .vmem S128x7168 .bf16) (harg7 : arg7.IsWhole) : Pr (F := F) (Mxu F) :=
  if Scalar.cmpi .ne (Scalar.extui (Scalar.cmpi .eq (BitVec.ofNat 32 (i 0).val) 0#32)) 0#32 = 1#1
    then ordAll arg1 arg7 harg7 else pure Mxu.init

/-- The body. -/
def body (i : grid0.Coords) (arg1 : Memref sig .tc .vmem S128x7168 .bf16)
    (arg2 : Memref sig .tc .vmem S28x32x512 .i8) (arg3 : Memref sig .tc .vmem S28x64x512 .i8)
    (arg4 : Memref sig .tc .vmem S12x28x512 .i8) (arg5 : Memref sig .tc .vmem S28x512 .i16)
    (arg6 : Memref sig .tc .vmem S128x512 .bf16) (harg6 : arg6.IsWhole)
    (arg7 : Memref sig .tc .vmem S128x7168 .bf16) (harg7 : arg7.IsWhole)
    (arg8 : Memref sig .tc .vmem S8x32x2x512 .bf16) (harg8 : arg8.IsWhole) : Pr (F := F) PUnit := do
  let s ← start i arg1 arg7 harg7
  prep arg4 arg5 arg8 harg8
  let s ← stepLoop arg2 arg3 arg7 arg8 allBlocks s
  let s ← putOut 0 arg6 harg6 s
  let s ← putOut 1 arg6 harg6 s
  s.exit

set_option maxHeartbeats 0 in
/-- The first window of the printed body: the order prologue if this is the first grid point, and the row scales. -/
theorem head_eq (i : grid0.Coords) (arg1 : Memref sig .tc .vmem S128x7168 .bf16) (harg1 : arg1.IsWhole)
    (arg2 : Memref sig .tc .vmem S28x32x512 .i8) (harg2 : arg2.IsWhole) (arg3 : Memref sig .tc .vmem S28x64x512 .i8) (harg3 : arg3.IsWhole)
    (arg4 : Memref sig .tc .vmem S12x28x512 .i8) (harg4 : arg4.IsWhole) (arg5 : Memref sig .tc .vmem S28x512 .i16) (harg5 : arg5.IsWhole)
    (arg6 : Memref sig .tc .vmem S128x512 .bf16) (harg6 : arg6.IsWhole)
    (arg7 : Memref sig .tc .vmem S128x7168 .bf16) (harg7 : arg7.IsWhole)
    (arg8 : Memref sig .tc .vmem S8x32x2x512 .bf16) (harg8 : arg8.IsWhole) :
    k0_part9 (F := F) i arg1 harg1 arg2 harg2 arg3 harg3 arg4 harg4 arg5 harg5 arg6 harg6 arg7 harg7 arg8 harg8
      = (do
        let s ← start i arg1 arg7 harg7
        let d : Vec F S28x512 .i16 ← Prog.lift (.load arg5 rD.toLoadRect (View.loadsAt_vmem h_S28x512))
        pure ⟨s, half d⟩) := by
  unfold k0_part9 start
  by_cases h : Scalar.cmpi .ne (Scalar.extui (Scalar.cmpi .eq (BitVec.ofNat 32 (i 0).val) 0#32)) 0#32 = 1#1
  · rw [dif_pos h, if_pos h]; rfl
  · rw [dif_neg h, if_neg h]; rfl

end Cert.Proof.PI

end
-- ==== Proof.PI.Wp.lean ====
module

public import proofs.«01_k».proof.Proof.PI.Shape
public import Idealize.ShloMosaic.Lib.Mxu.Lemmas
public import Idealize.ShloMosaic.Lib.Pipeline.FrameBody

/-! How the steps of the body run: each takes the eight memrefs at given contents to the contents it leaves. -/

@[expose] public section

set_option maxRecDepth 16384

noncomputable section

namespace Cert.Proof.PI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F]

local notation "𝕄" => MT nD τ sig Unit (Elt F) ℕ (UR sig nD τ) ℕ

/-! ## Contents overwritten on a rectangle -/

open Classical in
/-- The contents `X` with `w` in place of what the rectangle names. -/
def upd {sh : Shape} {α : Type} (r : Rect sh) (w : r.shape.Idx → α) (X : sh.Idx → α) : sh.Idx → α :=
  fun y => if h : ∃ x, r.emb x = y then w h.choose else X y

theorem upd_emb {sh : Shape} {α : Type} (r : Rect sh) (w : r.shape.Idx → α) (X : sh.Idx → α) (x : r.shape.Idx) :
    upd r w X (r.emb x) = w x := by
  have h : ∃ x', r.emb x' = r.emb x := ⟨x, rfl⟩
  unfold upd; rw [dif_pos h]; exact congrArg w (r.emb.injective h.choose_spec)

theorem upd_not {sh : Shape} {α : Type} (r : Rect sh) (w : r.shape.Idx → α) (X : sh.Idx → α) (y : sh.Idx)
    (h : ∀ x, r.emb x ≠ y) : upd r w X y = X y := by
  unfold upd; rw [dif_neg]; rintro ⟨x, hx⟩; exact h x hx

/-! ## One load, one store -/

/-- A load of an owned memref continues at what the rectangle reads of its contents. -/
theorem owns_load (c : Thread nD τ) {α : Type} {Q : α → sProp 𝕄} {sh : Shape} {e : EltTy} {cs : CoreSpace} {m : Memref sig c.2.kind cs sh e} {r : Rect sh}
    {hl : m.view.LoadsAt r.toLoadRect} {k : (r.shape.Idx → Elt F e) → Prog (TpuEff nD τ sig (Elt F) Λ₀ c.2) α} {X : sh.Idx → Elt F e} :
    (owns c m fullShare X : sProp 𝕄)
      ⊢ iprop((owns c m fullShare X -∗ wp frame (wpE (defs₀ (F := F)) Variants.none c none) Set.univ (k (fun x => X (r.emb x))) Q)
        -∗ wp frame (wpE (defs₀ (F := F)) Variants.none c none) Set.univ (.op (.load m r.toLoadRect hl) k) Q) := by
  unfold owns
  iintro ⟨%f, %hf, H⟩ Hk
  subst hf
  iapply (wp_load Variants.none c none Set.univ (m := m) (r := r.toLoadRect) (S := m.view.set) (View.setOn_subset_set _ _)) $$ H
  iintro H
  iapply Hk
  iexists f; isplitr; · ipureintro; rfl
  iexact H

/-- A store to a memref owned whole leaves the contents overwritten on the rectangle. -/
theorem owns_store (c : Thread nD τ) {α : Type} {Q : α → sProp 𝕄} {sh : Shape} {e : EltTy} {cs : CoreSpace} {m : Memref sig c.2.kind cs sh e} {r : Rect sh}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ c.2) α} {X : sh.Idx → Elt F e} :
    (owns c m fullShare X : sProp 𝕄)
      ⊢ iprop((owns c m fullShare (upd r w X) -∗ wp frame (wpE (defs₀ (F := F)) Variants.none c none) Set.univ (k ⟨⟩) Q)
        -∗ wp frame (wpE (defs₀ (F := F)) Variants.none c none) Set.univ (.op (.store m r w Finset.univ hx hm) k) Q) := by
  unfold owns
  iintro ⟨%f, %hf, H⟩ Hk
  subst hf
  iapply (wp_store Variants.none c none Set.univ (m := m) (r := r) (S := m.view.set) (View.set_slice_subset m.view r)) $$ H
  iintro H
  iapply Hk
  iexists _; isplitr
  swap; · iexact H
  ipureintro
  funext y
  by_cases h : ∃ x, r.emb x = y
  · obtain ⟨x, rfl⟩ := h
    rw [upd_emb]; exact View.read_slice_write_emb r f w (Finset.mem_univ x)
  · rw [upd_not _ _ _ _ fun x hx => h ⟨x, hx⟩]
    refine View.read_slice_write_of_not_mem r f w _ fun hy => h ?_
    obtain ⟨x, -, hx⟩ := Finset.mem_map.mp hy
    exact ⟨x, hx⟩

/-! ## The eight memrefs -/

/-- The body's memrefs. -/
structure Args where
  a1 : Memref sig .tc .vmem S128x7168 .bf16
  a2 : Memref sig .tc .vmem S28x32x512 .i8
  a3 : Memref sig .tc .vmem S28x64x512 .i8
  a4 : Memref sig .tc .vmem S12x28x512 .i8
  a5 : Memref sig .tc .vmem S28x512 .i16
  a6 : Memref sig .tc .vmem S128x512 .bf16
  a7 : Memref sig .tc .vmem S128x7168 .bf16
  a8 : Memref sig .tc .vmem S8x32x2x512 .bf16

/-- The contents of the five inputs. -/
structure Ins (F : FTy → Type) where
  x : Vec F S128x7168 .bf16
  h : Vec F S28x32x512 .i8
  q : Vec F S28x64x512 .i8
  s : Vec F S12x28x512 .i8
  d : Vec F S28x512 .i16

variable (c : Dev nD) (A : Args) (I : Ins F)

/-- The eight memrefs owned: the inputs at their contents, the output at `o`, the reordered activations at `xp`, the
    scales at `g`. -/
def Rs (o : Vec F S128x512 .bf16) (xp : Vec F S128x7168 .bf16) (g : Vec F S8x32x2x512 .bf16) : sProp 𝕄 :=
  iprop(owns (c : Thread nD τ) A.a1 fullShare I.x ∗ owns (c : Thread nD τ) A.a2 fullShare I.h ∗ owns (c : Thread nD τ) A.a3 fullShare I.q
    ∗ owns (c : Thread nD τ) A.a4 fullShare I.s ∗ owns (c : Thread nD τ) A.a5 fullShare I.d ∗ owns (c : Thread nD τ) A.a6 fullShare o
    ∗ owns (c : Thread nD τ) A.a7 fullShare xp ∗ owns (c : Thread nD τ) A.a8 fullShare g)

/-- From `P` the program runs to a result satisfying `Φ`, leaving `P'`. -/
def Tri {α : Type} (P : sProp 𝕄) (p : Pr (F := F) α) (Φ : α → Prop) (P' : sProp 𝕄) : Prop :=
  P ⊢ wp frame (wpE (defs₀ (F := F)) Variants.none (c : Thread nD τ) none) Set.univ p (fun a => iprop(⌜Φ a⌝ ∗ P'))

variable {c}

theorem Tri.bind {α β : Type} {P P' P'' : sProp 𝕄} {p : Pr (F := F) α} {k : α → Pr (F := F) β} {Φ : α → Prop} {Ψ : β → Prop}
    (h : Tri c P p Φ P') (hk : ∀ a, Φ a → Tri c P' (k a) Ψ P'') : Tri c P (p >>= k) Ψ P'' := by
  unfold Tri at *
  rw [wp_bind]
  refine h.trans (wp_mono _ _ _ fun a => ?_)
  iintro ⟨%ha, H⟩
  iapply (hk a ha)
  iexact H

theorem Tri.mono {α : Type} {P P' : sProp 𝕄} {p : Pr (F := F) α} {Φ Ψ : α → Prop} (h : Tri c P p Φ P') (hΦ : ∀ a, Φ a → Ψ a) : Tri c P p Ψ P' := by
  unfold Tri at *
  refine h.trans (wp_mono _ _ _ fun a => ?_)
  iintro ⟨%ha, H⟩
  isplitr; · ipureintro; exact hΦ a ha
  iexact H

theorem Tri.pure {α : Type} {P : sProp 𝕄} {v : α} {Φ : α → Prop} (h : Φ v) : Tri (F := F) c P (pure v) Φ P := by
  unfold Tri
  rw [show (Pure.pure v : Pr (F := F) α) = .ret v from rfl, wp_ret]
  iintro H
  imodintro
  isplitr; · ipureintro; exact h
  iexact H

variable {A I} {o : Vec F S128x512 .bf16} {xp : Vec F S128x7168 .bf16} {g : Vec F S8x32x2x512 .bf16}

theorem ld1 {r : Rect S128x7168} {hl : A.a1.view.LoadsAt r.toLoadRect} :
    Tri c (Rs c A I o xp g) (Prog.lift (.load A.a1 r.toLoadRect hl)) (· = fun x => I.x (r.emb x)) (Rs c A I o xp g) := by
  unfold Tri Rs
  iintro ⟨H1, H2, H3, H4, H5, H6, H7, H8⟩
  iapply (owns_load (c : Thread nD τ) (m := A.a1) (r := r)) $$ H1; iintro H1
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld2 {r : Rect S28x32x512} {hl : A.a2.view.LoadsAt r.toLoadRect} :
    Tri c (Rs c A I o xp g) (Prog.lift (.load A.a2 r.toLoadRect hl)) (· = fun x => I.h (r.emb x)) (Rs c A I o xp g) := by
  unfold Tri Rs
  iintro ⟨H1, H2, H3, H4, H5, H6, H7, H8⟩
  iapply (owns_load (c : Thread nD τ) (m := A.a2) (r := r)) $$ H2; iintro H2
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld3 {r : Rect S28x64x512} {hl : A.a3.view.LoadsAt r.toLoadRect} :
    Tri c (Rs c A I o xp g) (Prog.lift (.load A.a3 r.toLoadRect hl)) (· = fun x => I.q (r.emb x)) (Rs c A I o xp g) := by
  unfold Tri Rs
  iintro ⟨H1, H2, H3, H4, H5, H6, H7, H8⟩
  iapply (owns_load (c : Thread nD τ) (m := A.a3) (r := r)) $$ H3; iintro H3
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld4 {r : Rect S12x28x512} {hl : A.a4.view.LoadsAt r.toLoadRect} :
    Tri c (Rs c A I o xp g) (Prog.lift (.load A.a4 r.toLoadRect hl)) (· = fun x => I.s (r.emb x)) (Rs c A I o xp g) := by
  unfold Tri Rs
  iintro ⟨H1, H2, H3, H4, H5, H6, H7, H8⟩
  iapply (owns_load (c : Thread nD τ) (m := A.a4) (r := r)) $$ H4; iintro H4
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld5 {r : Rect S28x512} {hl : A.a5.view.LoadsAt r.toLoadRect} :
    Tri c (Rs c A I o xp g) (Prog.lift (.load A.a5 r.toLoadRect hl)) (· = fun x => I.d (r.emb x)) (Rs c A I o xp g) := by
  unfold Tri Rs
  iintro ⟨H1, H2, H3, H4, H5, H6, H7, H8⟩
  iapply (owns_load (c : Thread nD τ) (m := A.a5) (r := r)) $$ H5; iintro H5
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld6 {r : Rect S128x512} {hl : A.a6.view.LoadsAt r.toLoadRect} :
    Tri c (Rs c A I o xp g) (Prog.lift (.load A.a6 r.toLoadRect hl)) (· = fun x => o (r.emb x)) (Rs c A I o xp g) := by
  unfold Tri Rs
  iintro ⟨H1, H2, H3, H4, H5, H6, H7, H8⟩
  iapply (owns_load (c : Thread nD τ) (m := A.a6) (r := r)) $$ H6; iintro H6
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld7 {r : Rect S128x7168} {hl : A.a7.view.LoadsAt r.toLoadRect} :
    Tri c (Rs c A I o xp g) (Prog.lift (.load A.a7 r.toLoadRect hl)) (· = fun x => xp (r.emb x)) (Rs c A I o xp g) := by
  unfold Tri Rs
  iintro ⟨H1, H2, H3, H4, H5, H6, H7, H8⟩
  iapply (owns_load (c : Thread nD τ) (m := A.a7) (r := r)) $$ H7; iintro H7
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ld8 {r : Rect S8x32x2x512} {hl : A.a8.view.LoadsAt r.toLoadRect} :
    Tri c (Rs c A I o xp g) (Prog.lift (.load A.a8 r.toLoadRect hl)) (· = fun x => g (r.emb x)) (Rs c A I o xp g) := by
  unfold Tri Rs
  iintro ⟨H1, H2, H3, H4, H5, H6, H7, H8⟩
  iapply (owns_load (c : Thread nD τ) (m := A.a8) (r := r)) $$ H8; iintro H8
  rw [wp_ret]; imodintro
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem st6 {r : Rect S128x512} {w : Vec F r.shape .bf16} {hx : (A.a6.access r).Stores Finset.univ}
    {hm : (Finset.univ : Finset r.shape.Idx) = Finset.univ ∨ ∀ a, r.stride a = 1} :
    Tri c (Rs c A I o xp g) (Prog.lift (.store A.a6 r w Finset.univ hx hm)) (fun _ => True) (Rs c A I (upd r w o) xp g) := by
  unfold Tri Rs
  iintro ⟨H1, H2, H3, H4, H5, H6, H7, H8⟩
  iapply (owns_store (c : Thread nD τ) (m := A.a6) (r := r) (w := w)) $$ H6; iintro H6
  rw [wp_ret]; imodintro
  isplitr; · ipureintro; trivial
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem st7 {r : Rect S128x7168} {w : Vec F r.shape .bf16} {hx : (A.a7.access r).Stores Finset.univ}
    {hm : (Finset.univ : Finset r.shape.Idx) = Finset.univ ∨ ∀ a, r.stride a = 1} :
    Tri c (Rs c A I o xp g) (Prog.lift (.store A.a7 r w Finset.univ hx hm)) (fun _ => True) (Rs c A I o (upd r w xp) g) := by
  unfold Tri Rs
  iintro ⟨H1, H2, H3, H4, H5, H6, H7, H8⟩
  iapply (owns_store (c : Thread nD τ) (m := A.a7) (r := r) (w := w)) $$ H7; iintro H7
  rw [wp_ret]; imodintro
  isplitr; · ipureintro; trivial
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem st8 {r : Rect S8x32x2x512} {w : Vec F r.shape .bf16} {hx : (A.a8.access r).Stores Finset.univ}
    {hm : (Finset.univ : Finset r.shape.Idx) = Finset.univ ∨ ∀ a, r.stride a = 1} :
    Tri c (Rs c A I o xp g) (Prog.lift (.store A.a8 r w Finset.univ hx hm)) (fun _ => True) (Rs c A I o xp (upd r w g)) := by
  unfold Tri Rs
  iintro ⟨H1, H2, H3, H4, H5, H6, H7, H8⟩
  iapply (owns_store (c : Thread nD τ) (m := A.a8) (r := r) (w := w)) $$ H8; iintro H8
  rw [wp_ret]; imodintro
  isplitr; · ipureintro; trivial
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A push onto an empty register. -/
theorem tri_push {P : sProp 𝕄} {s : Mxu F} {q r : Fin 2} {tr : Bool} {φ : FTy} (v : FVec F (Mxu.STile 256) φ) (h : s.reg q r = none) :
    Tri c P (s.pushRhs q r tr v) (· = s.pushed q r tr v) P := by
  unfold Tri Mxu.pushRhs
  iintro H
  iapply (wp_assume (defs := defs₀ (F := F)) Variants.none (c : Thread nD τ) none Set.univ (Mxu.pushOk_of_none s q r tr h))
  rw [wp_ret]; imodintro
  isplitr; · ipureintro; rfl
  iexact H

/-- An accumulate by the tile the unit has loaded. -/
theorem tri_loaded {P : sProp 𝕄} {s : Mxu F} {q : Fin 2} {ad M : Nat} {φ : FTy} (lhs : FVec F (Mxu.STile M) φ) (h : Mxu.Fits ad M) {t : Mxu.Staged F}
    (ht : s.gmr q = some t) : Tri c P (s.accLhsLoaded q ad lhs h) (· = s.accBy q t ad lhs h) P := by
  unfold Tri
  iintro H
  rw [show s.accLhsLoaded q ad lhs h = (s.accLhsLoaded q ad lhs h >>= fun s' => (.ret s' : Prog (TpuEff nD τ sig (Elt F) Λ₀ .tc) (Mxu F))) from (bind_pure _).symm]
  iapply (Mxu.wp_accLhsLoaded (c := (c : Thread nD τ)) lhs h ht)
  rw [wp_ret]; imodintro
  isplitr; · ipureintro; rfl
  iexact H

/-- The exit of a drained unit. -/
theorem tri_exit {P : sProp 𝕄} {s : Mxu F} (h : s.Drained) : Tri c P s.exit (fun _ => True) P := by
  unfold Tri Mxu.exit
  iintro H
  iapply (wp_assume (defs := defs₀ (F := F)) Variants.none (c : Thread nD τ) none Set.univ h)
  rw [wp_ret]; imodintro
  isplitr; · ipureintro; trivial
  iexact H

end Cert.Proof.PI

end
-- ==== Proof.PI.Steps.lean ====
module

public import proofs.«01_k».proof.Proof.PI.Wp

/-! What the body computes, step by step, and that it runs to it. -/

@[expose] public section

set_option maxRecDepth 16384

noncomputable section

namespace Cert.Proof.PI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F]

local notation "𝕄" => MT nD τ sig Unit (Elt F) ℕ (UR sig nD τ) ℕ

/-! ## The values -/

/-- Block `b`'s columns. -/
def xOf (x : Vec F S128x7168 .bf16) (b : Fin 28) : Vec F S128x256 .bf16 := fun y => x ((rX b).emb y)

/-- Block `b`'s reordered columns: the product with the order matrix, narrowed. -/
def ordVal (x : Vec F S128x7168 .bf16) (b : Fin 28) : FVec F S128x256 .bf16 :=
  shapeCast S128x256 (truncf .bf16 ((⟨.bf16, false, ordW⟩ : Mxu.Staged F).pass
    (shapeCast S128x256 (xOf x b) shapeCasts_S128x256_S128x256 : FVec F S128x256 .bf16)) bitsLt_bf16_f32) shapeCasts_S128x256_S128x256

/-- The reordered activations after the blocks of the list. -/
def xpo (x : Vec F S128x7168 .bf16) (bs : List (Fin 28)) (xp : Vec F S128x7168 .bf16) : Vec F S128x7168 .bf16 :=
  bs.foldl (fun xp b => upd (rX b) (ordVal x b) xp) xp

/-- The planes of the scale buffer: from the packed scales and the rows' scales. -/
def wordOf (I : Ins F) : Fin 8 → Vec F S1x28x2x512 .bf16 :=
  let d : Vec F S28x512 .i16 := fun y => I.d (rD.emb y)
  let r : Fin 12 → Vec F S1x28x512 .i8 := fun k y => I.s ((rS k).emb y)
  ![word (grp (half d) (r 0) (r 8) 0#32 0#32) (grp (half d) (r 4) (r 8) 0#32 2#32),
    word (grp (half d) (r 1) (r 9) 0#32 0#32) (grp (half d) (r 5) (r 9) 0#32 2#32),
    word (grp (half d) (r 2) (r 10) 0#32 0#32) (grp (half d) (r 6) (r 10) 0#32 2#32),
    word (grp (half d) (r 3) (r 11) 0#32 0#32) (grp (half d) (r 7) (r 11) 0#32 2#32),
    word (grp (half d) (r 0) (r 8) 4#32 4#32) (grp (half d) (r 4) (r 8) 4#32 6#32),
    word (grp (half d) (r 1) (r 9) 4#32 4#32) (grp (half d) (r 5) (r 9) 4#32 6#32),
    word (grp (half d) (r 2) (r 10) 4#32 4#32) (grp (half d) (r 6) (r 10) 4#32 6#32),
    word (grp (half d) (r 3) (r 11) 4#32 4#32) (grp (half d) (r 7) (r 11) 4#32 6#32)]

/-- The scale buffer with its planes written. -/
def gpo (w : Fin 8 → Vec F S1x28x2x512 .bf16) (g : Vec F S8x32x2x512 .bf16) : Vec F S8x32x2x512 .bf16 :=
  upd (rW 7) (w 7) (upd (rW 6) (w 6) (upd (rW 5) (w 5) (upd (rW 4) (w 4)
    (upd (rW 3) (w 3) (upd (rW 2) (w 2) (upd (rW 1) (w 1) (upd (rW 0) (w 0) g)))))))

/-- The element of plane `b`'s row that a half of the tile reads. -/
def ixW (b : Fin 28) (m : Fin 2) (y : S8x1x2x256.Idx) : S1x28x2x512.Idx := fun a => match a with
  | ⟨0, _⟩ => ⟨0, Nat.zero_lt_one⟩
  | ⟨1, _⟩ => ⟨b.val, b.isLt⟩
  | ⟨2, _⟩ => y 2
  | ⟨3, _⟩ => ⟨256 * m.val + (y 3).val, by have h1 : (y 3).val < 256 := (y 3).isLt; have h2 := m.isLt; show _ < 512; omega⟩

/-- One block's scales for one half of the tile, read off the planes. -/
def rawOf (w : Fin 8 → Vec F S1x28x2x512 .bf16) (b : Fin 28) (m : Fin 2) : Vec F S8x1x2x256 .bf16 := fun y => w (y 0) (ixW b m y)

/-- One block's product for one half of the tile, from the reordered columns `X` and the scales `raw`. -/
def passWith (I : Ins F) (X : Vec F S128x256 .bf16) (raw : Vec F S8x1x2x256 .bf16) (b : Fin 28) (m : Fin 2) : FVec F (Mxu.STile 128) .f32 :=
  (⟨.bf16, false, wfn raw (fun y => I.q ((rQ b m).emb y)) (fun y => I.h ((rH b m).emb y))⟩ : Mxu.Staged F).pass (M := 128) (φ := .bf16) X

/-- One more product onto a sum, if there is one. -/
def addO (a : Option (FVec F (Mxu.STile 128) .f32)) (p : FVec F (Mxu.STile 128) .f32) : Option (FVec F (Mxu.STile 128) .f32) :=
  some (match a with | none => p | some e => addf e p)

/-- The sum over the blocks of the list. -/
def accs (P : Fin 28 → FVec F (Mxu.STile 128) .f32) (bs : List (Fin 28)) (a : Option (FVec F (Mxu.STile 128) .f32)) : Option (FVec F (Mxu.STile 128) .f32) :=
  bs.foldl (fun a b => addO a (P b)) a

/-- One block's product for one half of the tile. -/
def passOf (I : Ins F) (b : Fin 28) (m : Fin 2) : FVec F (Mxu.STile 128) .f32 := passWith I (ordVal I.x b) (rawOf (wordOf I) b m) b m

/-- One half of the tile: the products summed over all blocks, narrowed. -/
def outTile (I : Ins F) (m : Fin 2) : FVec F S128x256 .bf16 :=
  truncf .bf16 (((accs (fun b => passOf I b m) allBlocks none).getD (constant _ .f32 0) : FVec F (Mxu.STile 128) .f32) : FVec F S128x256 .f32) bitsLt_bf16_f32

/-- The tile. -/
def outBlk (I : Ins F) : Vec F S128x512 .bf16 :=
  upd (rO 1) (outTile I 1) (upd (rO 0) (outTile I 0) (fun _ => Scalar.ofBits .bf16 0#16))

/-! ## What was written, read back -/

theorem xOf_upd (x xp : Vec F S128x7168 .bf16) (b b' : Fin 28) (w : Vec F S128x256 .bf16) :
    xOf (upd (rX b') w xp) b = if b = b' then w else xOf xp b := by
  by_cases hb : b = b'
  · subst hb; rw [if_pos rfl]; exact funext fun y => upd_emb _ _ _ _
  · rw [if_neg hb]
    refine funext fun y => upd_not _ _ _ _ fun z hz => hb ?_
    have h1 : (z 1).val < 256 := (z 1).isLt
    have h2 : (y 1).val < 256 := (y 1).isLt
    have h3 : 256 * b'.val + (z 1).val = 256 * b.val + (y 1).val := by
      have h4 := congrArg Fin.val (congrFun hz 1)
      simpa [Rect.emb_apply] using h4
    exact Fin.ext (by omega)

theorem xpo_nil (x xp : Vec F S128x7168 .bf16) : xpo x [] xp = xp := by unfold xpo; rfl
theorem xpo_cons (x xp : Vec F S128x7168 .bf16) (b : Fin 28) (bs : List (Fin 28)) :
    xpo x (b :: bs) xp = xpo x bs (upd (rX b) (ordVal x b) xp) := by unfold xpo; rfl

theorem xOf_xpo (x : Vec F S128x7168 .bf16) (bs : List (Fin 28)) : ∀ (xp : Vec F S128x7168 .bf16) (b : Fin 28),
    (b ∈ bs ∨ xOf xp b = ordVal x b) → xOf (xpo x bs xp) b = ordVal x b := by
  induction bs with
  | nil =>
    intro xp b h
    rw [xpo_nil]
    exact h.resolve_left List.not_mem_nil
  | cons b' bs ih =>
    intro xp b h
    rw [xpo_cons]
    refine ih (upd (rX b') (ordVal x b') xp) b ?_
    rw [xOf_upd x]
    by_cases hb : b = b'
    · subst hb; exact .inr (if_pos rfl)
    · rw [if_neg hb]
      exact h.imp (fun h => (List.mem_cons.mp h).resolve_left hb) id

theorem all_mem : ∀ b : Fin 28, b ∈ allBlocks := by decide

theorem xOf_all (x xp : Vec F S128x7168 .bf16) (b : Fin 28) : xOf (xpo x allBlocks xp) b = ordVal x b :=
  xOf_xpo x _ _ _ (.inl (all_mem b))

theorem upd_rW_self (p : Fin 8) (w : Vec F S1x28x2x512 .bf16) (g : Vec F S8x32x2x512 .bf16) (y : S1x28x2x512.Idx) :
    upd (rW p) w g ((rW p).emb y) = w y := upd_emb _ _ _ _

theorem upd_rW_ne (p p' : Fin 8) (h : p' ≠ p) (w : Vec F S1x28x2x512 .bf16) (g : Vec F S8x32x2x512 .bf16) (y : S1x28x2x512.Idx) :
    upd (rW p') w g ((rW p).emb y) = g ((rW p).emb y) := by
  refine upd_not _ _ _ _ fun z hz => h ?_
  have h1 : (z 0).val < 1 := (z 0).isLt
  have h2 : (y 0).val < 1 := (y 0).isLt
  have h3 : p'.val + (z 0).val = p.val + (y 0).val := by
    have h4 := congrArg Fin.val (congrFun hz 0)
    simpa [Rect.emb_apply] using h4
  exact Fin.ext (by omega)

theorem gpo_rW (w : Fin 8 → Vec F S1x28x2x512 .bf16) (g : Vec F S8x32x2x512 .bf16) (p : Fin 8) (y : S1x28x2x512.Idx) :
    gpo w g ((rW p).emb y) = w p y := by
  unfold gpo
  match p with
  | 0 => iterate 7 rw [upd_rW_ne _ _ (by decide)]
         rw [upd_rW_self]
  | 1 => iterate 6 rw [upd_rW_ne _ _ (by decide)]
         rw [upd_rW_self]
  | 2 => iterate 5 rw [upd_rW_ne _ _ (by decide)]
         rw [upd_rW_self]
  | 3 => iterate 4 rw [upd_rW_ne _ _ (by decide)]
         rw [upd_rW_self]
  | 4 => iterate 3 rw [upd_rW_ne _ _ (by decide)]
         rw [upd_rW_self]
  | 5 => iterate 2 rw [upd_rW_ne _ _ (by decide)]
         rw [upd_rW_self]
  | 6 => rw [upd_rW_ne _ _ (by decide), upd_rW_self]
  | 7 => rw [upd_rW_self]

theorem gpo_rG (w : Fin 8 → Vec F S1x28x2x512 .bf16) (g : Vec F S8x32x2x512 .bf16) (b : Fin 28) (m : Fin 2) :
    (fun y => gpo w g ((rG b m).emb y) : Vec F S8x1x2x256 .bf16) = rawOf w b m := by
  funext y
  unfold rawOf
  rw [← gpo_rW w g (y 0) (ixW b m y)]
  refine congrArg (gpo w g) (funext fun a => Fin.ext ?_)
  have hy1 : (y 1).val < 1 := (y 1).isLt
  have e1 : ∀ a, ((rG b m).emb y a).val = (rG b m).off a + (y a).val := fun a => by rw [Rect.emb_apply]; exact congrArg _ (Nat.one_mul _)
  have e2 : ∀ a, ((rW (y 0)).emb (ixW b m y) a).val = (rW (y 0)).off a + (ixW b m y a).val := fun a => by rw [Rect.emb_apply]; exact congrArg _ (Nat.one_mul _)
  refine (e1 a).trans (Eq.trans ?_ (e2 a).symm)
  match a with
  | 0 => show 0 + (y 0).val = (y 0).val + 0; omega
  | 1 => show b.val + (y 1).val = 0 + b.val; omega
  | 2 => show 0 + (y 2).val = 0 + (y 2).val; rfl
  | 3 => show 256 * m.val + (y 3).val = 0 + (256 * m.val + (y 3).val); omega

theorem outBlk_eq (I : Ins F) (o : Vec F S128x512 .bf16) : upd (rO 1) (outTile I 1) (upd (rO 0) (outTile I 0) o) = outBlk I := by
  funext y
  unfold outBlk upd
  by_cases h1 : ∃ x, (rO 1).emb x = y
  · rw [dif_pos h1, dif_pos h1]
  · rw [dif_neg h1, dif_neg h1]
    by_cases h0 : ∃ x, (rO 0).emb x = y
    · rw [dif_pos h0, dif_pos h0]
    · exfalso
      have hy0 : (y 0).val < 128 := (y 0).isLt
      have hy1 : (y 1).val < 512 := (y 1).isLt
      by_cases hlt : (y 1).val < 256
      · refine h0 ⟨Mxu.ix (m := 128) (n := 256) ⟨(y 0).val, hy0⟩ ⟨(y 1).val, hlt⟩, funext fun a => Fin.ext ?_⟩
        match a with
        | 0 => rw [Rect.emb_apply]; show 0 + 1 * (y 0).val = (y 0).val; omega
        | 1 => rw [Rect.emb_apply]; show 0 + 1 * (y 1).val = (y 1).val; omega
      · refine h1 ⟨Mxu.ix (m := 128) (n := 256) ⟨(y 0).val, hy0⟩ ⟨(y 1).val - 256, by omega⟩, funext fun a => Fin.ext ?_⟩
        match a with
        | 0 => rw [Rect.emb_apply]; show 0 + 1 * (y 0).val = (y 0).val; omega
        | 1 => rw [Rect.emb_apply]; show 256 + 1 * ((y 1).val - 256) = (y 1).val; omega

theorem outBlk_emb (I : Ins F) (m : Fin 2) (y : S128x256.Idx) : outBlk I ((rO m).emb y) = outTile I m y := by
  unfold outBlk
  match m with
  | 1 => exact upd_emb _ _ _ _
  | 0 =>
    refine (upd_not _ _ _ _ fun z hz => ?_).trans (upd_emb _ _ _ _)
    have h1 : (z 1).val < 256 := (z 1).isLt
    have h2 : (y 1).val < 256 := (y 1).isLt
    have h3 : 256 + (z 1).val = (y 1).val := by
      have h4 := congrArg Fin.val (congrFun hz 1)
      simpa [Rect.emb_apply] using h4
    omega

/-! ## The order prologue -/

/-- Between blocks of the prologue: the registers empty, no row live, the order matrix loaded in both units. -/
def OrdInv (s : Mxu F) : Prop := s.Drained ∧ ∀ q, s.gmr q = some ⟨.bf16, false, ordW⟩

theorem row_fits (r : Fin 128) : (Mxu.row fits_0_128 r).val = r.val := by simp [Mxu.row]

variable {c : Dev nD} {A : Args} {I : Ins F} {o : Vec F S128x512 .bf16} {xp : Vec F S128x7168 .bf16} {g : Vec F S8x32x2x512 .bf16}

theorem tri_ordTail (b : Fin 28) (h7 : A.a7.IsWhole) (s : Mxu F) (hs : s.read (unitOf b) 0 fits_0_128
      = (⟨.bf16, false, ordW⟩ : Mxu.Staged F).pass (shapeCast S128x256 (xOf I.x b) shapeCasts_S128x256_S128x256 : FVec F S128x256 .bf16)) :
    Tri c (Rs c A I o xp g) (ordTail b A.a7 h7 s) (· = s.pop (unitOf b) 0 128 fits_0_128) (Rs c A I o (upd (rX b) (ordVal I.x b) xp) g) := by
  unfold ordTail ordVal
  rw [← hs]
  exact ld7.bind fun _ _ => st7.bind fun _ _ => .pure rfl

theorem tri_ordStep1 (b : Fin 28) (h7 : A.a7.IsWhole) (s : Mxu F) (hs : OrdInv s) :
    Tri c (Rs c A I o xp g) (ordStep1 b A.a1 A.a7 h7 s) OrdInv (Rs c A I o (upd (rX b) (ordVal I.x b) xp) g) := by
  unfold ordStep1
  refine ld1.bind fun x hx => (tri_loaded _ _ (hs.2 _)).bind fun s' hs' => ?_
  subst hx hs'
  refine Tri.mono (tri_ordTail b h7 _ (Mxu.read_accBy_of_not_live _ _ _ _ _ _ fun r => hs.1.2 _ _)) ?_
  rintro s' rfl
  refine ⟨⟨fun q r => hs.1.1 q r, fun q R => ?_⟩, fun q => hs.2 q⟩
  rw [Mxu.live_pop, Mxu.live_accBy]
  split
  · rfl
  · exact hs.1.2 q R

theorem tri_ordLoop (h7 : A.a7.IsWhole) (bs : List (Fin 28)) : ∀ (xp : Vec F S128x7168 .bf16) (s : Mxu F), OrdInv s →
    Tri c (Rs c A I o xp g) (ordLoop A.a1 A.a7 h7 bs s) OrdInv (Rs c A I o (xpo I.x bs xp) g) := by
  induction bs with
  | nil =>
    intro xp s hs
    rw [ordLoop, xpo_nil]
    exact .pure hs
  | cons b bs ih =>
    intro xp s hs
    rw [ordLoop, xpo_cons]
    exact (tri_ordStep1 b h7 s hs).bind fun s' hs' => ih _ s' hs'

theorem tri_ordStep0 (b : Fin 28) (h7 : A.a7.IsWhole) (s : Mxu F) (hl : ∀ q R, s.live q R = false)
    (hr : s.reg (unitOf b) 0 = some ⟨.bf16, false, ordW⟩) :
    Tri c (Rs c A I o xp g) (ordStep0 b A.a1 A.a7 h7 s) (fun s' => (∀ q R, s'.live q R = false)
      ∧ (∀ q r, s'.reg q r = if q = unitOf b ∧ r = 0 then none else s.reg q r)
      ∧ (∀ q, s'.gmr q = if q = unitOf b then some ⟨.bf16, false, ordW⟩ else s.gmr q)) (Rs c A I o (upd (rX b) (ordVal I.x b) xp) g) := by
  have hst : s.staged (unitOf b) 0 = ⟨.bf16, false, ordW⟩ := by rw [Mxu.staged, hr]; rfl
  unfold ordStep0
  refine ld1.bind fun x hx => ?_
  subst hx
  refine Tri.mono (tri_ordTail b h7 _ ((Mxu.read_accLhs_of_not_live _ _ _ _ _ _ fun r => hl _ _).trans (by rw [hst]; rfl))) ?_
  rintro s' rfl
  refine ⟨fun q R => ?_, fun q r => rfl, fun q => ?_⟩
  · rw [Mxu.live_pop, Mxu.live_accLhs]
    split
    · rfl
    · exact hl q R
  · show (if q = unitOf b then some (s.staged (unitOf b) 0) else s.gmr q) = _
    rw [hst]

theorem tri_ordAll (h7 : A.a7.IsWhole) :
    Tri c (Rs c A I o xp g) (ordAll A.a1 A.a7 h7) Mxu.Drained (Rs c A I o (xpo I.x allBlocks xp) g) := by
  unfold ordAll
  refine (tri_push _ rfl).bind fun s1 e1 => ?_
  have r1 : ∀ q r, s1.reg q r = if q = 0 ∧ r = 0 then some ⟨.bf16, false, ordW⟩ else none := by subst e1; intro q r; rfl
  have l1 : ∀ q R, s1.live q R = false := by subst e1; intro q R; rfl
  refine (tri_push _ ((r1 1 0).trans (if_neg (by decide)))).bind fun s2 e2 => ?_
  have r2 : ∀ q r, s2.reg q r = if r = 0 then some ⟨.bf16, false, ordW⟩ else none := by
    subst e2; intro q r
    have h := r1 1 0
    rw [if_neg (by decide)] at h
    by_cases hq : q = 1 ∧ r = 0
    · obtain ⟨rfl, rfl⟩ := hq
      rw [Mxu.reg_pushed_of_none _ _ _ _ _ h]; rfl
    · rw [Mxu.reg_pushed_ne _ _ _ _ _ _ _ hq, r1]
      match q, r with
      | 0, 0 => rfl
      | 0, 1 => rfl
      | 1, 0 => exact absurd ⟨rfl, rfl⟩ hq
      | 1, 1 => rfl
  have l2 : ∀ q R, s2.live q R = false := by subst e2; intro q R; rw [Mxu.live_pushed]; exact l1 q R
  refine (tri_ordStep0 0 h7 s2 l2 ((r2 _ 0).trans (if_pos rfl))).bind fun s3 ⟨l3, r3, g3⟩ => ?_
  have r30 : s3.reg (unitOf 1) 0 = some ⟨.bf16, false, ordW⟩ :=
    ((r3 _ _).trans (if_neg (by decide))).trans ((r2 _ 0).trans (if_pos rfl))
  refine (tri_ordStep0 1 h7 s3 l3 r30).bind fun s4 ⟨l4, r4, g4⟩ => ?_
  refine Tri.mono (tri_ordLoop h7 lateBlocks _ s4 ⟨⟨fun q r => ?_, l4⟩, fun q => ?_⟩) fun s h => h.1
  · rw [r4, r3, r2]
    match q, r with
    | 0, 0 => rfl
    | 0, 1 => rfl
    | 1, 0 => rfl
    | 1, 1 => rfl
  · rw [g4, g3]
    match q with
    | 0 => rfl
    | 1 => rfl

/-! ## The scales -/

theorem tri_putWord (p : Fin 8) (h8 : A.a8.IsWhole) (w : Vec F S1x28x2x512 .bf16) :
    Tri c (Rs c A I o xp g) (putWord p A.a8 h8 w) (fun _ => True) (Rs c A I o xp (upd (rW p) w g)) := by
  unfold putWord
  exact ld8.bind fun _ _ => st8

theorem tri_prep (h8 : A.a8.IsWhole) :
    Tri c (Rs c A I o xp g) (prep A.a4 A.a5 A.a8 h8) (fun _ => True) (Rs c A I o xp (gpo (wordOf I) g)) := by
  unfold prep getPlane
  refine ld5.bind fun d hd => ld4.bind fun r0 h0 => ld4.bind fun r1 h1 => ld4.bind fun r2 h2 => ld4.bind fun r3 h3 =>
    ld4.bind fun r4 h4 => ld4.bind fun r5 h5 => ld4.bind fun r6 h6 => ld4.bind fun r7 h7 => ld4.bind fun r8 h8' =>
    ld4.bind fun r9 h9 => ld4.bind fun r10 h10 => ld4.bind fun r11 h11 => ?_
  subst hd h0 h1 h2 h3 h4 h5 h6 h7 h8' h9 h10 h11
  exact (tri_putWord 0 h8 _).bind fun _ _ => (tri_putWord 1 h8 _).bind fun _ _ => (tri_putWord 2 h8 _).bind fun _ _ =>
    (tri_putWord 3 h8 _).bind fun _ _ => (tri_putWord 4 h8 _).bind fun _ _ => (tri_putWord 5 h8 _).bind fun _ _ =>
    (tri_putWord 6 h8 _).bind fun _ _ => tri_putWord 7 h8 _

/-! ## The products -/

/-- One unit between steps: its registers empty; nothing of it live, or its first 128 rows live and holding the sum. -/
def UnitInv (q : Fin 2) (a : Option (FVec F (Mxu.STile 128) .f32)) (s : Mxu F) : Prop :=
  (∀ r, s.reg q r = none) ∧ match a with
    | none => ∀ R, s.live q R = false
    | some e => (∀ R, s.live q R = decide (R.val < 128)) ∧ s.read q 0 fits_0_128 = e

theorem UnitInv.of_drained {s : Mxu F} (h : s.Drained) (q : Fin 2) : UnitInv q none s :=
  ⟨fun r => Option.isNone_iff_eq_none.mp (h.1 q r), fun R => h.2 q R⟩

theorem UnitInv.step_self {m : Fin 2} {a : Option (FVec F (Mxu.STile 128) .f32)} {s : Mxu F} (h : UnitInv m a s)
    (v : FVec F (Mxu.STile 256) .bf16) (x : FVec F (Mxu.STile 128) .bf16) :
    UnitInv m (addO a ((⟨.bf16, false, v⟩ : Mxu.Staged F).pass x)) ((s.pushed m 0 false v).accLhs m 0 0 x fits_0_128) := by
  have hst : (s.pushed m 0 false v).staged m 0 = ⟨.bf16, false, v⟩ := by
    rw [Mxu.staged, Mxu.reg_pushed_of_none _ _ _ _ _ (h.1 0)]; rfl
  refine ⟨fun r => ?_, ?_, ?_⟩
  · match r with
    | 0 => exact Mxu.reg_accLhs _ _ _ _ _ _
    | 1 => rw [Mxu.reg_accLhs_ne _ _ _ _ _ _ _ _ (by simp), Mxu.reg_pushed_ne _ _ _ _ _ _ _ (by simp)]; exact h.1 1
  · intro R
    rw [Mxu.live_accLhs, Mxu.live_pushed]
    by_cases hR : R.val < 128
    · rw [if_pos ⟨rfl, by omega, by omega⟩]; exact (decide_eq_true hR).symm
    · rw [if_neg (by omega)]
      match a, h with
      | none, h => rw [h.2 R]; exact (decide_eq_false hR).symm
      | some e, h => exact h.2.1 R
  · match a, h with
    | none, h =>
      rw [Mxu.read_accLhs_of_not_live _ _ _ _ _ _ (fun r => by rw [Mxu.live_pushed]; exact h.2 _), hst]
    | some e, h =>
      rw [Mxu.read_accLhs_of_live _ _ _ _ _ _ (fun r => by
        rw [Mxu.live_pushed, h.2.1, row_fits]; exact decide_eq_true r.isLt), hst, Mxu.read_pushed, h.2.2]

theorem UnitInv.step_ne {m m' : Fin 2} (hm : m' ≠ m) {a : Option (FVec F (Mxu.STile 128) .f32)} {s : Mxu F} (h : UnitInv m' a s)
    (v : FVec F (Mxu.STile 256) .bf16) (x : FVec F (Mxu.STile 128) .bf16) :
    UnitInv m' a ((s.pushed m 0 false v).accLhs m 0 0 x fits_0_128) := by
  have hl : ∀ R, ((s.pushed m 0 false v).accLhs m 0 0 x fits_0_128).live m' R = s.live m' R := fun R => by
    rw [Mxu.live_accLhs, Mxu.live_pushed, if_neg (fun h => hm h.1)]
  refine ⟨fun r => ?_, ?_⟩
  · rw [Mxu.reg_accLhs_ne _ _ _ _ _ _ _ _ (fun h => hm h.1), Mxu.reg_pushed_ne _ _ _ _ _ _ _ (fun h => hm h.1)]; exact h.1 r
  · match a, h with
    | none, h => exact fun R => (hl R).trans (h.2 R)
    | some e, h =>
      refine ⟨fun R => (hl R).trans (h.2.1 R), ?_⟩
      rw [Mxu.read_accLhs_ne _ _ _ _ _ _ _ _ _ (.inl hm), Mxu.read_pushed]; exact h.2.2

theorem tri_step (b : Fin 28) (m : Fin 2) (s : Mxu F) (hm : s.reg m 0 = none) :
    Tri c (Rs c A I o xp g) (step b m A.a2 A.a3 A.a7 A.a8 s) (· = (s.pushed m 0 false (wfn (fun y => g ((rG b m).emb y))
      (fun y => I.q ((rQ b m).emb y)) (fun y => I.h ((rH b m).emb y)))).accLhs m 0 0 (xOf xp b) fits_0_128) (Rs c A I o xp g) := by
  unfold step
  refine ld8.bind fun raw e1 => ld3.bind fun q e2 => ld2.bind fun h e3 => ?_
  subst e1 e2 e3
  refine (tri_push _ hm).bind fun s' e4 => ld7.bind fun x e5 => ?_
  subst e4 e5
  exact .pure rfl

theorem tri_stepLoop (bs : List (Fin 28)) : ∀ (s : Mxu F) (a : Fin 2 → Option (FVec F (Mxu.STile 128) .f32)), (∀ q, UnitInv q (a q) s) →
    Tri c (Rs c A I o xp g) (stepLoop A.a2 A.a3 A.a7 A.a8 bs s)
      (fun s' => ∀ q, UnitInv q (accs (fun b => passWith I (xOf xp b) (fun y => g ((rG b q).emb y)) b q) bs (a q)) s') (Rs c A I o xp g) := by
  induction bs with
  | nil => exact fun s a h => .pure h
  | cons b bs ih =>
    intro s a h
    rw [stepLoop]
    refine (tri_step b 0 s ((h 0).1 0)).bind fun s1 e1 => ?_
    have h10 := (h 0).step_self (wfn (fun y => g ((rG b 0).emb y)) (fun y => I.q ((rQ b 0).emb y)) (fun y => I.h ((rH b 0).emb y))) (xOf xp b)
    have h11 := (h 1).step_ne (m := 0) (by decide) (wfn (fun y => g ((rG b 0).emb y)) (fun y => I.q ((rQ b 0).emb y)) (fun y => I.h ((rH b 0).emb y))) (xOf xp b)
    rw [← e1] at h10 h11
    refine (tri_step b 1 s1 (h11.1 0)).bind fun s2 e2 => ?_
    have h20 := h10.step_ne (m := 1) (by decide) (wfn (fun y => g ((rG b 1).emb y)) (fun y => I.q ((rQ b 1).emb y)) (fun y => I.h ((rH b 1).emb y))) (xOf xp b)
    have h21 := h11.step_self (wfn (fun y => g ((rG b 1).emb y)) (fun y => I.q ((rQ b 1).emb y)) (fun y => I.h ((rH b 1).emb y))) (xOf xp b)
    rw [← e2] at h20 h21
    refine Tri.mono (ih s2 (fun q => addO (a q) (passWith I (xOf xp b) (fun y => g ((rG b q).emb y)) b q)) ?_) fun s' h' => h'
    intro q
    match q with
    | 0 => exact h20
    | 1 => exact h21

/-! ## The stores -/

theorem tri_putOut (m : Fin 2) (h6 : A.a6.IsWhole) (s : Mxu F) :
    Tri c (Rs c A I o xp g) (putOut m A.a6 h6 s) (· = s.pop m 0 128 fits_0_128)
      (Rs c A I (upd (rO m) (truncf .bf16 (s.read m 0 fits_0_128) bitsLt_bf16_f32 : FVec F S128x256 .bf16) o) xp g) := by
  unfold putOut
  exact ld6.bind fun _ _ => st6.bind fun _ _ => .pure rfl

theorem accs_some (P : Fin 28 → FVec F (Mxu.STile 128) .f32) (bs : List (Fin 28)) : ∀ (e : FVec F (Mxu.STile 128) .f32),
    ∃ e', accs P bs (some e) = some e' := by
  induction bs with
  | nil => exact fun e => ⟨e, rfl⟩
  | cons b bs ih => exact fun e => ih (addf e (P b))

/-- The body after its prologue, the reordered activations in place: the output's tile is left in its memref. -/
theorem tri_rest (h6 : A.a6.IsWhole) (h8 : A.a8.IsWhole) (hxp : ∀ b, xOf xp b = ordVal I.x b) (s : Mxu F) (hs : s.Drained) :
    Tri c (Rs c A I o xp g) (do
      prep A.a4 A.a5 A.a8 h8
      let s ← stepLoop A.a2 A.a3 A.a7 A.a8 allBlocks s
      let s ← putOut 0 A.a6 h6 s
      let s ← putOut 1 A.a6 h6 s
      s.exit) (fun _ => True) (Rs c A I (outBlk I) xp (gpo (wordOf I) g)) := by
  refine (tri_prep h8).bind fun _ _ => ?_
  refine (tri_stepLoop allBlocks s (fun _ => none) fun q => .of_drained hs q).bind fun s1 h1 => ?_
  have hP : ∀ q, (fun b => passWith I (xOf xp b) (fun y => gpo (wordOf I) g ((rG b q).emb y)) b q) = fun b => passOf I b q := fun q => by
    funext b
    rw [hxp b, gpo_rG]; rfl
  have h1' : ∀ q, (∀ r, s1.reg q r = none) ∧ (∀ R, s1.live q R = decide (R.val < 128))
      ∧ (truncf .bf16 (s1.read q 0 fits_0_128) bitsLt_bf16_f32 : FVec F S128x256 .bf16) = outTile I q := fun q => by
    have h := h1 q
    rw [hP q] at h
    obtain ⟨e, he⟩ := accs_some (fun b => passOf I b q) allBlocks.tail (passOf I 0 q)
    have he' : accs (fun b => passOf I b q) allBlocks none = some e := he
    unfold outTile
    rw [he'] at h ⊢
    exact ⟨h.1, h.2.1, congrArg (fun z : FVec F S128x256 .f32 => truncf .bf16 z bitsLt_bf16_f32) h.2.2⟩
  refine (tri_putOut 0 h6 s1).bind fun s2 e2 => ?_
  refine (tri_putOut 1 h6 s2).bind fun s3 e3 => ?_
  have hr : (truncf .bf16 (s2.read 1 0 fits_0_128) bitsLt_bf16_f32 : FVec F S128x256 .bf16) = outTile I 1 := by
    rw [e2, Mxu.read_pop_ne _ _ _ _ _ _ _ (.inl (by decide))]; exact (h1' 1).2.2
  rw [(h1' 0).2.2, hr, outBlk_eq]
  refine tri_exit ⟨fun q r => ?_, fun q R => ?_⟩
  · rw [e3, e2]; exact Option.isNone_iff_eq_none.mpr ((h1' q).1 r)
  · rw [e3, Mxu.live_pop, e2, Mxu.live_pop, (h1' q).2.1 R]
    match q with
    | 0 => by_cases h : R.val < 128 <;> simp [h]
    | 1 => by_cases h : R.val < 128 <;> simp [h]

/-- The whole body: the reordered activations in place after it, whether this point wrote them or found them. -/
theorem tri_body (i : grid0.Coords) (h6 : A.a6.IsWhole) (h7 : A.a7.IsWhole) (h8 : A.a8.IsWhole)
    (hxp : (i 0).val ≠ 0 → ∀ b, xOf xp b = ordVal I.x b) :
    ∃ xp' g', (∀ b, xOf xp' b = ordVal I.x b) ∧
      Tri c (Rs c A I o xp g) (body i A.a1 A.a2 A.a3 A.a4 A.a5 A.a6 h6 A.a7 h7 A.a8 h8) (fun _ => True) (Rs c A I (outBlk I) xp' g') := by
  unfold body start
  by_cases h : Scalar.cmpi .ne (Scalar.extui (Scalar.cmpi .eq (BitVec.ofNat 32 (i 0).val) 0#32)) 0#32 = 1#1
  · rw [if_pos h]
    exact ⟨_, _, xOf_all I.x xp, (tri_ordAll h7).bind fun s hs => tri_rest h6 h8 (xOf_all I.x xp) s hs⟩
  · rw [if_neg h]
    have h0 : (i 0).val ≠ 0 := fun h0 => h (by rw [h0]; decide)
    exact ⟨_, _, hxp h0, (Tri.pure (Φ := Mxu.Drained) Mxu.init_drained).bind fun s hs => tri_rest h6 h8 (hxp h0) s hs⟩

end Cert.Proof.PI

end
-- ==== Proof.PI.BodyEq.lean ====
module

public import proofs.«01_k».proof.Proof.PI.Shape

/-! The printed body is the structured one. -/

@[expose] public section

set_option maxRecDepth 16384
set_option pp.maxSteps 30

noncomputable section

namespace Cert.Proof.PI

open Idealize.ShloMosaic Idealize.ShloMosaic.TcCoe
open Idealize.SL Idealize.SL.Sem
open Cert.KernelIdeal Cert.KernelIdeal.Facts₀ Cert.KernelIdeal.Facts

variable {F : FTy → Type} [FloatOps F]

/-- Two programs that begin with the same request and go on alike are the same. -/
theorem op_congr.{v} {ε : Type → Type v} {α β : Type} {e e' : ε β} {k k' : β → Prog ε α} (he : e = e') (hk : ∀ x, k x = k' x) :
    Prog.op e k = Prog.op e' k' := by rw [he, funext hk]

set_option maxHeartbeats 0 in
/-- The printed body is this one. -/
theorem body_eq (i : grid0.Coords) (arg1 : Memref sig .tc .vmem S128x7168 .bf16) (harg1 : arg1.IsWhole)
    (arg2 : Memref sig .tc .vmem S28x32x512 .i8) (harg2 : arg2.IsWhole) (arg3 : Memref sig .tc .vmem S28x64x512 .i8) (harg3 : arg3.IsWhole)
    (arg4 : Memref sig .tc .vmem S12x28x512 .i8) (harg4 : arg4.IsWhole) (arg5 : Memref sig .tc .vmem S28x512 .i16) (harg5 : arg5.IsWhole)
    (arg6 : Memref sig .tc .vmem S128x512 .bf16) (harg6 : arg6.IsWhole)
    (arg7 : Memref sig .tc .vmem S128x7168 .bf16) (harg7 : arg7.IsWhole)
    (arg8 : Memref sig .tc .vmem S8x32x2x512 .bf16) (harg8 : arg8.IsWhole) :
    cc0_q3k_linear (F := F) i arg1 harg1 arg2 harg2 arg3 harg3 arg4 harg4 arg5 harg5 arg6 harg6 arg7 harg7 arg8 harg8
      = body i arg1 arg2 arg3 arg4 arg5 arg6 harg6 arg7 harg7 arg8 harg8 := by
  unfold cc0_q3k_linear k0_part208 body
  rw [head_eq, bind_assoc, bind_assoc]
  refine congrArg (Bind.bind _) (funext fun s => ?_)
  repeat (refine op_congr rfl ?_; intro x)
  rfl

end Cert.Proof.PI

end
-- ==== Proof.PI.Run.lean ====
module

public import proofs.«01_k».proof.Proof.PI.Steps
public import proofs.«01_k».proof.Proof.PI.BodyEq
public import proofs.«01_k».proof.Proof.Gen.KernelIdeal.Frame
public import Idealize.ShloMosaic.Lib.Claim

/-! The run: at every grid point the body leaves the tile `outBlk` of the point's blocks, and the whole program ends with
the arguments unchanged and every counter at zero. -/

@[expose] public section

set_option maxRecDepth 16384

noncomputable section

namespace Cert.Proof.PI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Facts₀ Cert.KernelIdeal.Facts Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five inputs' blocks at a point. -/
def ins (c : Dev nD) (t : Fin cfg0.N) : Ins F where
  x := iblk m c 0 t
  h := iblk m c 1 t
  q := iblk m c 2 t
  s := iblk m c 3 t
  d := iblk m c 4 t

/-- The activations' block is the same at every point. -/
theorem ins_x (c : Dev nD) (t t' : Fin cfg0.N) : (ins m c t).x = (ins m c t').x := by
  unfold ins iblk; rfl

/-- The first point. -/
def t0 : Fin cfg0.N := ⟨0, by decide⟩

/-- Before point `n`: the reordered activations in the first scratch buffer once a point has run, anything in the
    second. -/
def Phi (c : Dev nD) (n : Nat) : sProp 𝕄 :=
  iprop((∃ xp : Vec F S128x7168 .bf16, ⌜n ≠ 0 → ∀ b, xOf xp b = ordVal (ins m c t0).x b⌝ ∗ owns (c : Thread nD τ) (Memref.whole cc0_scratch0) fullShare xp)
    ∗ (∃ g : Vec F S8x32x2x512 .bf16, owns (c : Thread nD τ) (Memref.whole cc0_scratch1) fullShare g) ∗ ∃ r, prngReg c r)

/-- The proof data: the arrays as the region finds them; each input's buffer left at its block, the output's at the
    tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (ins m c t)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk (ins m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body's memrefs at point `t`. -/
def args (t : Fin cfg0.N) : Args where
  a1 := st0_0 t
  a2 := st0_1 t
  a3 := st0_2 t
  a4 := st0_3 t
  a5 := st0_4 t
  a6 := st0_5 t
  a7 := Memref.whole cc0_scratch0
  a8 := Memref.whole cc0_scratch1

theorem coord_val (t : Fin cfg0.N) : (grid0.coords t 0).val = t.val := by
  have h : t.val < 36 := lt_of_lt_of_eq t.isLt N_0
  have h' := Pipeline.Grid.coords_val (G := grid0) t 0 (S := 1) (B := 36) (by decide) (by decide)
  omega

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5, body_eq]
  unfold Phi
  iintro ⟨⟨⟨%xp, %hxp, H7⟩, ⟨%g, H8⟩, Hp⟩, Ho, ⟨%d0, H1⟩, ⟨%d1, H2⟩, ⟨%d2, H3⟩, ⟨%d3, H4⟩, ⟨%d4, H5⟩, ⟨%d5, H6⟩⟩
  obtain ⟨xp', g', hxp', htri⟩ := tri_body (c := c) (A := args t) (I := ins m c t) (o := (dats m 0 c).before 5 t d5) (xp := xp) (g := g)
    (grid0.coords t) (Cert.KernelIdeal.Gen.hstage0_5 ((cfg0.slots t 5).cast Cert.KernelIdeal.Gen.nbuf0_5)) (Memref.isWhole_whole _) (Memref.isWhole_whole _)
    (fun h b => by rw [ins_x m c t t0]; exact hxp (by rwa [coord_val] at h) b)
  unfold Tri at htri
  have hw := fun Q' => (sep_mono_left htri).trans (wp_wand_r frame (wpE (defs₀ (F := F)) Variants.none c none) Set.univ (Q' := Q'))
  unfold Rs at hw
  iapply (hw _)
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %a ⟨-, H1, H2, H3, H4, H5, H6, H7, H8⟩
  isplitl [H7 H8 Hp]
  · isplitl [H7]
    · iexists xp'; isplitr
      · ipureintro; intro _ b; rw [ins_x m c t0 t]; exact hxp' b
      iexact H7
    isplitl [H8]
    · iexists g'; iexact H8
    iexact Hp
  isplitl [Ho]; · iexact Ho
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : (Pipeline.ΦA spec0 c : sProp 𝕄) ⊢ (dats m 0 c).Φ 0 := by
  rw [show (dats m 0 c).Φ 0 = Phi m c 0 from rfl]
  unfold Pipeline.ΦA Phi
  rw [scopedRest0_eq]
  simp only [owns_whole]
  iintro ⟨⟨⟨%f, H7⟩, ⟨%g, H8⟩⟩, Hp⟩
  isplitl [H7]
  · iexists f; isplitr
    · ipureintro; intro h; exact absurd rfl h
    iexact H7
  isplitl [H8]
  · iexists g; iexact H8
  iexact Hp

theorem phi_out (c : Dev nD) : (dats m 0 c).Φ (Fin.last cfg0.N) ⊢ (Pipeline.ΦA spec0 c : sProp 𝕄) := by
  rw [show (dats m 0 c).Φ (Fin.last cfg0.N) = Phi m c cfg0.N from rfl]
  unfold Pipeline.ΦA Phi
  rw [scopedRest0_eq]
  simp only [owns_whole]
  iintro ⟨⟨%f, -, H7⟩, ⟨%g, H8⟩, Hp⟩
  isplitl [H7 H8]
  · isplitl [H7]
    · iexists f; iexact H7
    iexists g; iexact H8
  iexact Hp

set_option backward.isDefEq.respectTransparency.types false in
set_option maxHeartbeats 800000 in
/-- The run: every array of the pipeline ends at what the proof data says, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end as they began, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.PI

end
-- ==== Proof.Val.Half.lean ====
module

public import proofs.«01_k».proof.Proof.PI.Shape
public import Idealize.ShloMosaic.PureOps.Ideal.Laws

/-! The kernel's decoding of a half-precision pattern: half the value the pattern stands for. -/

@[expose] public section

set_option maxRecDepth 16384

noncomputable section

namespace Cert.Proof.Val

open Idealize.ShloMosaic Idealize.ShloMosaic.TcCoe

/-- The pattern's magnitude bits. -/
def hMag (b : BitVec 16) : BitVec 32 := b.signExtend 32 &&& 32767#32
/-- The pattern's sign as the sign of a single. -/
def hSgn (b : BitVec 16) : BitVec 32 := (b.signExtend 32 &&& 32768#32) <<< 16
/-- A normal number's bits as a single, at half the value. -/
def hNorm (b : BitVec 16) : BitVec 32 := (hMag b <<< 13 + 931135488#32) ||| hSgn b
/-- An infinity's or a NaN's bits as a single. -/
def hSpec (b : BitVec 16) : BitVec 32 := (hMag b <<< 13 ||| 2139095040#32) ||| hSgn b

/-- The fields of the words, over all patterns, told by Booleans. -/
def hOk (b : BitVec 16) : Bool :=
  let e := b.extractLsb' 10 5
  let f := b.extractLsb' 0 10
  if e = 0 then (hMag b).slt 1024#32 && (hMag b).toNat == f.toNat && (hSgn b != 0#32) == b.getLsbD 15
  else if e = 31 then !(hMag b).slt 1024#32 && !(hMag b).slt 31744#32 && (hSpec b).extractLsb' 23 8 == 255#8
    && ((hSpec b).extractLsb' 0 23).toNat == f.toNat * 8192 && (hSpec b).getLsbD 31 == b.getLsbD 15
  else !(hMag b).slt 1024#32 && (hMag b).slt 31744#32 && ((hNorm b).extractLsb' 23 8).toNat == e.toNat + 111
    && ((hNorm b).extractLsb' 0 23).toNat == f.toNat * 8192 && (hNorm b).getLsbD 31 == b.getLsbD 15

set_option maxHeartbeats 4000000 in
theorem hOk_all : ∀ b : BitVec 16, hOk b = true := by decide +kernel

end Cert.Proof.Val
-- ==== Proof.Val.HalfVal.lean ====
module

public import proofs.«01_k».proof.Proof.Val.Half
public import Idealize.ShloMosaic.Lib.Pointwise

/-! The kernel's decoding of a half-precision pattern, as a number: twice it is the value the pattern stands for. -/

@[expose] public section

set_option maxRecDepth 16384

noncomputable section

namespace Cert.Proof.Val

open Idealize.ShloMosaic Idealize.ShloMosaic.TcCoe

/-- The kernel's number for a pattern. -/
def halfE (b : BitVec 16) : EReal :=
  if (hMag b).slt 1024#32 then
    (if hSgn b ≠ 0#32 then Ideal.ofBits .f32 0#32 - (((hMag b).toInt : ℝ) : EReal) * Ideal.ofBits .f32 0x33000000#32
      else (((hMag b).toInt : ℝ) : EReal) * Ideal.ofBits .f32 0x33000000#32)
  else if (hMag b).slt 31744#32 then Ideal.ofBits .f32 (hNorm b) else Ideal.ofBits .f32 (hSpec b)

theorem ext_one {w : Nat} (b : BitVec w) (k : Nat) : (b.extractLsb' k 1 == 1#1) = b.getLsbD k := by
  rw [Bool.eq_iff_iff, beq_iff_eq]
  constructor
  · intro h
    have := congrArg (·.getLsbD 0) h
    simpa using this
  · intro h
    apply BitVec.eq_of_getLsbD_eq
    intro i hi
    have : i = 0 := by omega
    subst this
    simpa using h

theorem hMag_nonneg (b : BitVec 16) : (hMag b).toInt = (hMag b).toNat := by
  apply BitVec.toInt_eq_toNat_of_lt
  have : (hMag b).toNat ≤ 32767 := by
    unfold hMag; rw [BitVec.toNat_and]; exact Nat.and_le_right
  omega

theorem tiny_unit : Ideal.ofBits .f32 0x33000000#32 = (((2 : ℝ) ^ (-25 : Int) : ℝ) : EReal) := by
  simp [Ideal.ofBits, Ideal.ieee, -EReal.coe_mul]; norm_num
theorem zero_unit : Ideal.ofBits .f32 0#32 = ((0 : ℝ) : EReal) := by
  simp [Ideal.ofBits, Ideal.ieee, -EReal.coe_mul]

/-- A format's number from its sign, exponent field and fraction field. -/
def fieldsE (e m : Nat) (neg : Bool) (ex fr : Nat) : EReal :=
  if ex = 2 ^ e - 1 then (if fr = 0 then (if neg then ⊥ else ⊤) else ⊥)
  else if ex = 0 then (((if neg then -1 else 1) * (fr : ℝ) * (2 : ℝ) ^ (1 - (2 ^ (e - 1) - 1) - m : Int) : ℝ) : EReal)
  else (((if neg then -1 else 1) * ((2 ^ m + fr : Nat) : ℝ) * (2 : ℝ) ^ ((ex : Int) - (2 ^ (e - 1) - 1) - m) : ℝ) : EReal)

theorem ieee_fields (e m : Nat) {w : Nat} (b : BitVec w) (neg : Bool) (ex fr : Nat) (hn : b.getLsbD (e + m) = neg)
    (hx : (b.extractLsb' m e).toNat = ex) (hf : (b.extractLsb' 0 m).toNat = fr) : Ideal.ieee e m b = fieldsE e m neg ex fr := by
  subst hn hx hf
  unfold Ideal.ieee fieldsE
  rw [ext_one]

theorem fields_special (neg : Bool) (f : Nat) : 2 * fieldsE 8 23 neg 255 (f * 8192) = fieldsE 5 10 neg 31 f := by
  have two : (2 : EReal) = ((2 : ℝ) : EReal) := rfl
  have hp : (2 : EReal) * ⊤ = ⊤ := by rw [two]; exact EReal.coe_mul_top_of_pos (by norm_num)
  have hm : (2 : EReal) * ⊥ = ⊥ := by rw [two]; exact EReal.coe_mul_bot_of_pos (by norm_num)
  have h1 : (255 : Nat) = 2 ^ 8 - 1 := by norm_num
  have h2 : (31 : Nat) = 2 ^ 5 - 1 := by norm_num
  have e1 : fieldsE 8 23 neg 255 (f * 8192) = if f * 8192 = 0 then (if neg then ⊥ else ⊤) else ⊥ := if_pos h1
  have e2 : fieldsE 5 10 neg 31 f = if f = 0 then (if neg then ⊥ else ⊤) else ⊥ := if_pos h2
  rw [e1, e2]
  by_cases hz : f = 0
  · subst hz
    cases neg
    · exact hp
    · exact hm
  · have hz' : ¬ f * 8192 = 0 := by omega
    rw [if_neg hz, if_neg hz']
    exact hm

theorem fields_normal (neg : Bool) (e f : Nat) (h0 : e ≠ 0) (h31 : e ≠ 31) (lt : e < 32) :
    2 * fieldsE 8 23 neg (e + 111) (f * 8192) = fieldsE 5 10 neg e f := by
  have two : (2 : EReal) = ((2 : ℝ) : EReal) := rfl
  have n1 : ¬ e + 111 = 2 ^ 8 - 1 := by norm_num; omega
  have n2 : ¬ e + 111 = 0 := by omega
  have n3 : ¬ e = 2 ^ 5 - 1 := by norm_num; omega
  unfold fieldsE
  rw [if_neg n1, if_neg n2, if_neg n3, if_neg h0, two, ← EReal.coe_mul]
  refine congrArg Real.toEReal ?_
  have hz : ((2 : ℝ) ^ (((e + 111 : Nat) : Int) - (2 ^ (8 - 1) - 1) - ((23 : Nat) : Int))) = 2 ^ ((e : Int) - (2 ^ (5 - 1) - 1) - ((10 : Nat) : Int)) * 2 ^ (-14 : Int) := by
    rw [← zpow_add₀ (by norm_num : (2 : ℝ) ≠ 0)]; congr 1; push_cast; norm_num; ring
  rw [hz]
  have ht : (2 : ℝ) ^ (-14 : Int) = 1 / 16384 := by norm_num
  rw [ht]
  generalize (2 : ℝ) ^ ((e : Int) - (2 ^ (5 - 1) - 1) - ((10 : Nat) : Int)) = z
  generalize (if neg = true then (-1 : ℝ) else 1) = g
  push_cast
  ring

theorem fields_tiny (neg : Bool) (f : Nat) : fieldsE 5 10 neg 0 f = (((if neg then -1 else 1) * (f : ℝ) * (2 : ℝ) ^ (-24 : Int) : ℝ) : EReal) := by
  have n1 : ¬ (0 : Nat) = 2 ^ 5 - 1 := by norm_num
  unfold fieldsE
  rw [if_neg n1, if_pos rfl]
  norm_num

theorem tiny_pos (f : Nat) : 2 * ((((f : Int) : ℝ) * (2 : ℝ) ^ (-25 : Int) : ℝ) : EReal) =
    (((if false = true then -1 else 1) * (f : ℝ) * (2 : ℝ) ^ (-24 : Int) : ℝ) : EReal) := by
  have two : (2 : EReal) = ((2 : ℝ) : EReal) := rfl
  rw [two, ← EReal.coe_mul]
  refine congrArg Real.toEReal ?_
  norm_num
  ring
theorem tiny_neg (f : Nat) : 2 * ((0 - ((f : Int) : ℝ) * (2 : ℝ) ^ (-25 : Int) : ℝ) : EReal) =
    (((if true = true then -1 else 1) * (f : ℝ) * (2 : ℝ) ^ (-24 : Int) : ℝ) : EReal) := by
  have two : (2 : EReal) = ((2 : ℝ) : EReal) := rfl
  rw [two, ← EReal.coe_mul]
  refine congrArg Real.toEReal ?_
  norm_num
  ring

set_option maxHeartbeats 2000000 in
theorem two_halfE (b : BitVec 16) : 2 * halfE b = Ideal.ofBits .f16 b := by
  have h := hOk_all b
  have two : (2 : EReal) = ((2 : ℝ) : EReal) := rfl
  unfold hOk at h
  simp only at h
  have hb : Ideal.ofBits .f16 b = Ideal.ieee 5 10 b := rfl
  have hf : ∀ w : BitVec 32, Ideal.ofBits .f32 w = Ideal.ieee 8 23 w := fun _ => rfl
  rw [hb, ieee_fields 5 10 b _ _ _ rfl rfl rfl]
  by_cases h0 : b.extractLsb' 10 5 = 0
  · rw [if_pos h0] at h
    simp only [Bool.and_eq_true, beq_iff_eq] at h
    obtain ⟨⟨h1, h2⟩, h3⟩ := h
    have e0 : (b.extractLsb' 10 5).toNat = 0 := by rw [h0]; rfl
    rw [e0, fields_tiny]
    unfold halfE
    rw [if_pos h1, hMag_nonneg, h2, tiny_unit, zero_unit, ← EReal.coe_mul, ← EReal.coe_sub]
    simp only [show (5 + 10 : Nat) = 15 from rfl]
    rw [← h3]
    generalize (b.extractLsb' 0 10).toNat = f
    by_cases hn : hSgn b = 0#32
    · have hb : (hSgn b != 0#32) = false := by rw [hn]; rfl
      rw [if_neg (not_not.mpr hn), hb]
      exact tiny_pos f
    · have hb : (hSgn b != 0#32) = true := by simpa using hn
      rw [if_pos hn, hb]
      exact tiny_neg f
  · rw [if_neg h0] at h
    by_cases h31 : b.extractLsb' 10 5 = 31
    · rw [if_pos h31] at h
      simp only [Bool.and_eq_true, beq_iff_eq, Bool.not_eq_true'] at h
      obtain ⟨⟨⟨⟨h1, h2⟩, h3⟩, h4⟩, h5⟩ := h
      have e0 : (b.extractLsb' 10 5).toNat = 31 := by rw [h31]; rfl
      have e1 : ((hSpec b).extractLsb' 23 8).toNat = 255 := by rw [h3]; rfl
      rw [e0]
      unfold halfE
      rw [if_neg (by simp [h1]), if_neg (by simp [h2]), hf, ieee_fields 8 23 _ _ _ _ h5 e1 h4]
      exact fields_special _ _
    · rw [if_neg h31] at h
      simp only [Bool.and_eq_true, beq_iff_eq, Bool.not_eq_true'] at h
      obtain ⟨⟨⟨⟨h1, h2⟩, h3⟩, h4⟩, h5⟩ := h
      have l0 : (b.extractLsb' 10 5).toNat ≠ 0 := fun hh => h0 (BitVec.eq_of_toNat_eq (by simpa using hh))
      have l31 : (b.extractLsb' 10 5).toNat ≠ 31 := fun hh => h31 (BitVec.eq_of_toNat_eq (by simpa using hh))
      unfold halfE
      rw [if_neg (by simp [h1]), if_pos h2, hf, ieee_fields 8 23 _ _ _ _ h5 h3 h4]
      exact fields_normal _ _ _ l0 l31 (b.extractLsb' 10 5).isLt

theorem sel_slt (x y : BitVec 32) (A B : EReal) : Scalar.select (IntOp.cmpi CmpIPredicate.slt x y) A B = if x.slt y then A else B := by
  unfold Scalar.select IntOp.cmpi
  cases x.slt y <;> rfl
theorem sel_ne (x y : BitVec 32) (A B : EReal) : Scalar.select (IntOp.cmpi CmpIPredicate.ne x y) A B = if x ≠ y then A else B := by
  unfold Scalar.select IntOp.cmpi
  by_cases h : x = y
  · subst h; simp
  · have h2 : (x != y) = true := by simpa using h
    simp [h, h2]

/-- The decoded scale at an index. -/
theorem half_apply (d : Vec Ideal Cert.KernelIdeal.S28x512 .i16) (i : Cert.KernelIdeal.S28x512.Idx) :
    Cert.Proof.PI.half (F := Ideal) d i = halfE (d i) := by
  unfold Cert.Proof.PI.half
  pointwise
  rw [sel_slt, sel_slt, sel_ne]
  have s16 : ∀ x : BitVec 32, IntOp.shli ArithUnit.vector x 16#32 = x <<< 16 := fun _ => rfl
  have s13 : ∀ x : BitVec 32, IntOp.shli ArithUnit.vector x 13#32 = x <<< 13 := fun _ => rfl
  have sf : ∀ x : BitVec 32, (FloatOps.sitofp .f32 x : Ideal .f32) = ((x.toInt : ℝ) : EReal) := fun _ => rfl
  have an : ∀ x y : BitVec 32, IntOp.andi x y = x &&& y := fun _ _ => rfl
  have or' : ∀ x y : BitVec 32, IntOp.ori x y = x ||| y := fun _ _ => rfl
  have ad : ∀ x y : BitVec 32, IntOp.addi x y = x + y := fun _ _ => rfl
  simp only [s16, s13, sf, an, or', ad]
  unfold halfE hNorm hSpec hSgn hMag
  rw [zero_unit]
  rfl

end Cert.Proof.Val
-- ==== Proof.Val.Spec.lean ====
module

public import Idealize.ShloMosaic.Lib.Pointwise

/-! The packed format, element by element: a weight's signed integer, a group's scale, and the four-bit codes the kernel
builds from the packed words. -/

@[expose] public section

set_option maxRecDepth 16384

noncomputable section

namespace Cert.Proof.Val

open Idealize.ShloMosaic

/-- The signed integer of the weight of half `k`, quarter `j`: two low bits, one high bit, less four. -/
def aI (q h : BitVec 8) (k j : Nat) : BitVec 32 :=
  ((q.setWidth 32).sshiftRight (2 * j) &&& 3#32) + 4#32 * ((h.setWidth 32).sshiftRight (4 * k + j) &&& 1#32) - 4#32

/-- A group's scale from the byte of its low bits and the byte of its high bits. -/
def sc6 (lo hi : BitVec 8) (sl sh : Nat) : BitVec 32 :=
  (((lo.setWidth 32).sshiftRight sl &&& 15#32) ||| (((hi.setWidth 32).sshiftRight sh &&& 3#32) <<< 4)) - 32#32

/-- A weight's integer from its three bits. -/
def aBits (l0 l1 h : Bool) : BitVec 32 :=
  (BitVec.ofBool l1 ++ BitVec.ofBool l0 : BitVec 2).setWidth 32 + 4#32 * (BitVec.ofBool h).setWidth 32 - 4#32

theorem lowBits : ∀ (q : BitVec 8) (j : Fin 4), (q.setWidth 32).sshiftRight (2 * j.val) &&& 3#32 =
    (BitVec.ofBool (q.getLsbD (2 * j.val + 1)) ++ BitVec.ofBool (q.getLsbD (2 * j.val)) : BitVec 2).setWidth 32 := by decide +kernel
theorem highBit : ∀ (h : BitVec 8) (i : Fin 8), (h.setWidth 32).sshiftRight i.val &&& 1#32 = (BitVec.ofBool (h.getLsbD i.val)).setWidth 32 := by decide +kernel

theorem aI_bits (q h : BitVec 8) (k j : Nat) (hk : k < 2) (hj : j < 4) :
    aI q h k j = aBits (q.getLsbD (2 * j)) (q.getLsbD (2 * j + 1)) (h.getLsbD (4 * k + j)) := by
  unfold aI aBits
  have h1 := lowBits q ⟨j, hj⟩
  have h2 := highBit h ⟨4 * k + j, by omega⟩
  simp only at h1 h2
  rw [h1, h2]

/-- A signed nibble from its four bits. -/
def nb4 (b0 b1 b2 b3 : Bool) : BitVec 32 :=
  (BitVec.ofBool b3 ++ (BitVec.ofBool b2 ++ (BitVec.ofBool b1 ++ BitVec.ofBool b0 : BitVec 2) : BitVec 3) : BitVec 4).signExtend 32

theorem nb4_val : ∀ l0 l1 h : Bool, (nb4 false l0 l1 (!h)).toInt = 2 * (aBits l0 l1 h).toInt := by decide +kernel

/-- Nibble `t` of a word, signed. -/
def nibOf (c : BitVec 32) (t : Nat) : BitVec 32 := (c <<< (28 - 4 * t)).sshiftRight 28

theorem appBits : ∀ b0 b1 b2 b3 : Bool,
    (BitVec.ofBool b3 ++ (BitVec.ofBool b2 ++ (BitVec.ofBool b1 ++ BitVec.ofBool b0 : BitVec 2) : BitVec 3) : BitVec 4).getLsbD 0 = b0 ∧
    (BitVec.ofBool b3 ++ (BitVec.ofBool b2 ++ (BitVec.ofBool b1 ++ BitVec.ofBool b0 : BitVec 2) : BitVec 3) : BitVec 4).getLsbD 1 = b1 ∧
    (BitVec.ofBool b3 ++ (BitVec.ofBool b2 ++ (BitVec.ofBool b1 ++ BitVec.ofBool b0 : BitVec 2) : BitVec 3) : BitVec 4).getLsbD 2 = b2 ∧
    (BitVec.ofBool b3 ++ (BitVec.ofBool b2 ++ (BitVec.ofBool b1 ++ BitVec.ofBool b0 : BitVec 2) : BitVec 3) : BitVec 4).getLsbD 3 = b3 := by decide

theorem nibOf_bits (c : BitVec 32) (t : Fin 8) :
    nibOf c t.val = nb4 (c.getLsbD (4 * t.val)) (c.getLsbD (4 * t.val + 1)) (c.getLsbD (4 * t.val + 2)) (c.getLsbD (4 * t.val + 3)) := by
  have ht := t.isLt
  have key : nibOf c t.val = ((c >>> (4 * t.val)).setWidth 4).signExtend 32 := by
    unfold nibOf
    apply BitVec.eq_of_getLsbD_eq
    intro i hi
    rw [BitVec.getLsbD_sshiftRight, BitVec.getLsbD_signExtend]
    simp only [BitVec.msb_eq_getLsbD_last, BitVec.getLsbD_shiftLeft, BitVec.getLsbD_setWidth, BitVec.getLsbD_ushiftRight]
    by_cases h4 : i < 4
    · have e1 : 28 + i - (28 - 4 * t.val) = 4 * t.val + i := by omega
      have e2 : ¬ 28 + i < 28 - 4 * t.val := by omega
      have e3 : 28 + i < 32 := by omega
      have e4 : ¬ 32 ≤ i := by omega
      simp [e1, e2, e3, e4, h4, hi]
    · have e3 : ¬ 28 + i < 32 := by omega
      have e4 : ¬ 32 ≤ i := by omega
      have e1 : 31 - (28 - 4 * t.val) = 4 * t.val + 3 := by omega
      have e5 : ¬ 31 < 28 - 4 * t.val := by omega
      simp [e3, e4, h4, hi, e1, e5]
  rw [key]
  unfold nb4
  congr 1
  apply BitVec.eq_of_getLsbD_eq
  intro i hi
  have hi' : i = 0 ∨ i = 1 ∨ i = 2 ∨ i = 3 := by omega
  obtain ⟨b0, b1, b2, b3⟩ := appBits (c.getLsbD (4 * t.val)) (c.getLsbD (4 * t.val + 1)) (c.getLsbD (4 * t.val + 2)) (c.getLsbD (4 * t.val + 3))
  rcases hi' with rfl | rfl | rfl | rfl
  · rw [b0]; simp
  · rw [b1]; simp
  · rw [b2]; simp
  · rw [b3]; simp

/-- The high bits with bits two and three of each byte exchanged with bits four and five, complemented. -/
def hiW (H : BitVec 32) : BitVec 32 :=
  let t := ((H >>> 2) ^^^ H) &&& 202116108#32
  ((H ^^^ t) ^^^ (t <<< 2)) ^^^ 4294967295#32

/-- The four words of codes. -/
def codeW (Q H : BitVec 32) : Fin 4 → BitVec 32 := fun
  | 0 => ((Q &&& 858993459#32) ||| ((hiW H <<< 2) &&& 1145324612#32)) <<< 1
  | 1 => ((Q >>> 1) &&& 1717986918#32) ||| ((hiW H <<< 2) &&& 2290649224#32)
  | 2 => ((Q &&& 858993459#32) ||| (hiW H &&& 1145324612#32)) <<< 1
  | 3 => ((Q >>> 1) &&& 1717986918#32) ||| (hiW H &&& 2290649224#32)

theorem xor_mid : ∀ a b : Bool, (a ^^ (b ^^ a)) = b := by decide

theorem codeW_bits (Q H : BitVec 32) (kc : Fin 4) (t : Fin 8) :
    (codeW Q H kc).getLsbD (4 * t.val) = false ∧ (codeW Q H kc).getLsbD (4 * t.val + 1) = Q.getLsbD (4 * t.val + 2 * (kc.val % 2)) ∧
    (codeW Q H kc).getLsbD (4 * t.val + 2) = Q.getLsbD (4 * t.val + 2 * (kc.val % 2) + 1) ∧
    (codeW Q H kc).getLsbD (4 * t.val + 3) = !H.getLsbD (8 * (t.val / 2) + 4 * (kc.val / 2) + kc.val % 2 + 2 * (t.val % 2)) := by
  unfold codeW hiW
  fin_cases kc <;> fin_cases t <;>
    simp [BitVec.getLsbD_or, BitVec.getLsbD_and, BitVec.getLsbD_xor, BitVec.getLsbD_shiftLeft, BitVec.getLsbD_ushiftRight, xor_mid]

/-- Nibble `t` of a word of codes is twice its weight's integer. -/
theorem nib_val (kc : Fin 4) (t : Fin 8) (Q H : BitVec 32) (q h : BitVec 8) (hq : ∀ i, i < 8 → Q.getLsbD (8 * (t.val / 2) + i) = q.getLsbD i)
    (hh : ∀ i, i < 8 → H.getLsbD (8 * (t.val / 2) + i) = h.getLsbD i) :
    (nibOf (codeW Q H kc) t.val).toInt = 2 * (aI q h (kc.val / 2) (kc.val % 2 + 2 * (t.val % 2))).toInt := by
  have ht := t.isLt
  have hk := kc.isLt
  obtain ⟨c0, c1, c2, c3⟩ := codeW_bits Q H kc t
  rw [nibOf_bits, c0, c1, c2, c3, nb4_val, aI_bits _ _ _ _ (by omega) (by omega)]
  have e1 : 4 * t.val + 2 * (kc.val % 2) = 8 * (t.val / 2) + 2 * (kc.val % 2 + 2 * (t.val % 2)) := by omega
  have e2 : 8 * (t.val / 2) + 4 * (kc.val / 2) + kc.val % 2 + 2 * (t.val % 2) = 8 * (t.val / 2) + (4 * (kc.val / 2) + (kc.val % 2 + 2 * (t.val % 2))) := by omega
  rw [e1, e2, Nat.add_assoc (8 * _), hq _ (by omega), hq _ (by omega), hh _ (by omega)]

end Cert.Proof.Val
-- ==== Proof.Val.Ker.lean ====
module

public import proofs.«01_k».proof.Proof.PI.Steps
public import proofs.«01_k».proof.Proof.Val.HalfVal
public import proofs.«01_k».proof.Proof.Val.Spec
public import Idealize.ShloMosaic.Lib.Pointwise
public import Idealize.ShloMosaic.Lib.BitcastFour
public import Idealize.ShloMosaic.Lib.MatmulPlain
public import Idealize.ShloMosaic.Lib.Pipeline.Value

/-! The kernel's terms at an index: the reordered activations, the weights, the products and their sum. -/

@[expose] public section

set_option maxRecDepth 16384

noncomputable section

namespace Cert.Proof.Val

open Idealize.ShloMosaic Idealize.ShloMosaic.TcCoe Idealize.ShloMosaic.StableHlo
open Cert.KernelIdeal Cert.KernelIdeal.Facts₀ Cert.KernelIdeal.Facts Cert.Proof.PI

/-! ## The scales -/

theorem grp_apply (v : FVec Ideal S28x512 .f32) (lo hi : Vec Ideal S1x28x512 .i8) (sl sh : Nat) (hsl : sl < 32) (hsh : sh < 32) (a : Fin 28) (b : Fin 512) :
    grp v lo hi (BitVec.ofNat 32 sl) (BitVec.ofNat 32 sh) (ix2 a b) = v (ix2 a b) * (((sc6 (lo (ix3 0 a b)) (hi (ix3 0 a b)) sl sh).toInt : ℝ) : EReal) := by
  unfold grp plane
  pointwise
  have hs : ∀ (x : BitVec 32) (k : Nat), k < 32 → IntOp.shrsi ArithUnit.vector x (BitVec.ofNat 32 k) = x.sshiftRight k := fun x k hk => by
    unfold IntOp.shrsi
    have e : (BitVec.ofNat 32 k).toNat = k := by rw [BitVec.toNat_ofNat]; exact Nat.mod_eq_of_lt (by omega)
    rw [e, if_pos hk, BitVec.sshiftRight', e]
  rw [hs _ _ hsl, hs _ _ hsh]
  rfl

theorem word_apply (x y : FVec Ideal S28x512 .f32) (a : Fin 28) (p : Fin 2) (b : Fin 512) :
    word x y (ix4 0 a p b) = if p.val % 2 = 0 then x (ix2 a b) else y (ix2 a b) := by
  unfold word
  pointwise

/-- A plane's entry: the row's scale times the group's. -/
theorem wordOf_apply (I : Ins Ideal) (pl : Fin 8) (a : Fin 28) (p : Fin 2) (b : Fin 512) :
    wordOf I pl (ix4 0 a p b) = halfE (I.d (ix2 a b)) *
      (((sc6 (I.s (ix3 ⟨pl.val % 4 + 4 * p.val, by omega⟩ a b)) (I.s (ix3 ⟨8 + pl.val % 4, by omega⟩ a b)) (4 * (pl.val / 4)) (2 * (2 * (pl.val / 4) + p.val))).toInt : ℝ) : EReal) := by
  have hd : (fun y => I.d (rD.emb y) : Vec Ideal S28x512 .i16) = I.d := funext fun y => congrArg I.d (funext fun a => Fin.ext (by
    rw [Rect.emb_apply]
    match a with
    | 0 => show 0 + 1 * (y 0).val = _; omega
    | 1 => show 0 + 1 * (y 1).val = _; omega))
  have hr : ∀ (k : Fin 12), I.s ((rS k).emb (ix3 0 a b)) = I.s (ix3 k a b) := fun k => congrArg I.s (funext fun c => Fin.ext (by
    rw [Rect.emb_apply]
    match c with
    | 0 => show k.val + 1 * 0 = k.val; omega
    | 1 => show 0 + 1 * a.val = a.val; omega
    | 2 => show 0 + 1 * b.val = b.val; omega))
  have key : ∀ (k0 k1 k2 : Fin 12) (s0 s1 s2 : Nat), s0 < 32 → s1 < 32 → s2 < 32 →
      word (grp (half I.d) (fun y => I.s ((rS k0).emb y)) (fun y => I.s ((rS k1).emb y)) (BitVec.ofNat 32 s0) (BitVec.ofNat 32 s1))
        (grp (half I.d) (fun y => I.s ((rS k2).emb y)) (fun y => I.s ((rS k1).emb y)) (BitVec.ofNat 32 s0) (BitVec.ofNat 32 s2)) (ix4 0 a p b) =
      halfE (I.d (ix2 a b)) * (((sc6 (I.s (ix3 (if p.val % 2 = 0 then k0 else k2) a b)) (I.s (ix3 k1 a b)) s0 (if p.val % 2 = 0 then s1 else s2)).toInt : ℝ) : EReal) := by
    intro k0 k1 k2 s0 s1 s2 h0 h1 h2
    rw [word_apply, grp_apply _ _ _ _ _ h0 h1, grp_apply _ _ _ _ _ h0 h2, half_apply]
    simp only [hr]
    split <;> rfl
  unfold wordOf
  simp only [hd]
  fin_cases pl <;> fin_cases p
  · exact key 0 8 4 0 0 2 (by decide) (by decide) (by decide)
  · exact key 0 8 4 0 0 2 (by decide) (by decide) (by decide)
  · exact key 1 9 5 0 0 2 (by decide) (by decide) (by decide)
  · exact key 1 9 5 0 0 2 (by decide) (by decide) (by decide)
  · exact key 2 10 6 0 0 2 (by decide) (by decide) (by decide)
  · exact key 2 10 6 0 0 2 (by decide) (by decide) (by decide)
  · exact key 3 11 7 0 0 2 (by decide) (by decide) (by decide)
  · exact key 3 11 7 0 0 2 (by decide) (by decide) (by decide)
  · exact key 0 8 4 4 4 6 (by decide) (by decide) (by decide)
  · exact key 0 8 4 4 4 6 (by decide) (by decide) (by decide)
  · exact key 1 9 5 4 4 6 (by decide) (by decide) (by decide)
  · exact key 1 9 5 4 4 6 (by decide) (by decide) (by decide)
  · exact key 2 10 6 4 4 6 (by decide) (by decide) (by decide)
  · exact key 2 10 6 4 4 6 (by decide) (by decide) (by decide)
  · exact key 3 11 7 4 4 6 (by decide) (by decide) (by decide)
  · exact key 3 11 7 4 4 6 (by decide) (by decide) (by decide)

theorem scl_apply (raw : Vec Ideal S8x1x2x256 .bf16) (k : Fin 8) (h : S8x1x256.Slices ![k.val, 0, 0] S1x1x256) (a : Fin 16) (b : Fin 256) :
    scl raw ![k.val, 0, 0] h (ix2 a b) = raw (ix4 k 0 ⟨a.val % 2, Nat.mod_lt _ (by decide)⟩ b) := by
  unfold scl rep8
  pointwise
  have e : ∀ (c : Prop) [Decidable c] (x : EReal), (if h : c then x else x) = x := fun c _ x => by split <;> rfl
  simp only [e]
  split
  · next h0 => congr 2; exact Fin.ext h0.symm
  · next h0 => congr 2; exact Fin.ext (by show 1 = a.val % 2; omega)

/-! ## The codes -/

theorem nib_apply (c : IVec S8x256 32) (a : Fin 64) (b : Fin 256) :
    nib (F := Ideal) c (ix2 a b) = (((nibOf (c (ix2 ⟨a.val / 8, by omega⟩ b)) (a.val % 8)).toInt : ℝ) : EReal) := by
  unfold nib left
  pointwise
  have h1 : ∀ t : Fin 8, IntOp.subi (28#32) (IntOp.muli (4#32) (BitVec.ofNat 32 t.val)) = BitVec.ofNat 32 (28 - 4 * t.val) := by decide
  have key : ∀ (w : BitVec 32) (t : Nat), t < 8 →
      IntOp.shrsi ArithUnit.vector (IntOp.shli ArithUnit.vector w (IntOp.subi (28#32) (IntOp.muli (4#32) (BitVec.ofNat 32 t)))) 28#32 = nibOf w t := by
    intro w t ht
    have h2 := h1 ⟨t, ht⟩
    simp only at h2
    rw [h2]
    have e1 : (BitVec.ofNat 32 (28 - 4 * t)).toNat = 28 - 4 * t := by rw [BitVec.toNat_ofNat]; exact Nat.mod_eq_of_lt (by omega)
    have e2 : IntOp.shli ArithUnit.vector w (BitVec.ofNat 32 (28 - 4 * t)) = w <<< (28 - 4 * t) := by
      unfold IntOp.shli
      rw [e1, if_pos (by omega), BitVec.shiftLeft_eq', e1]
    rw [e2]
    rfl
  rw [key _ _ (Nat.mod_lt _ (by decide))]
  rfl

/-- The low bits' words and the high bits' words. -/
def qW (q : Vec Ideal S1x64x256 .i8) : IVec S16x256 32 := bitcast S16x256 32 (shapeCast S64x256 q shapeCasts_S1x64x256_S64x256) bitcasts_S64x256_w8_S16x256_w32
def hW (h : Vec Ideal S1x32x256 .i8) : IVec S8x256 32 := bitcast S8x256 32 (shapeCast S32x256 h shapeCasts_S1x32x256_S32x256) bitcasts_S32x256_w8_S8x256_w32

theorem codes_apply (q : Vec Ideal S1x64x256 .i8) (h : Vec Ideal S1x32x256 .i8) (kc : Fin 4) (a : Fin 8) (b : Fin 256) :
    codes (F := Ideal) q h kc (ix2 a b) = codeW (qW q (ix2 ⟨8 * (kc.val / 2) + a.val, by omega⟩ b)) (hW h (ix2 a b)) kc := by
  match kc with
  | 0 =>
    refine Eq.trans ?_ (congrArg (fun r => codeW (qW q (ix2 r b)) (hW h (ix2 a b)) 0) (show (⟨a.val, by omega⟩ : Fin 16) = _ from Fin.ext (by show a.val = 8 * (0 / 2) + a.val; omega)))
    unfold codes; pointwise; rfl
  | 1 =>
    refine Eq.trans ?_ (congrArg (fun r => codeW (qW q (ix2 r b)) (hW h (ix2 a b)) 1) (show (⟨a.val, by omega⟩ : Fin 16) = _ from Fin.ext (by show a.val = 8 * (1 / 2) + a.val; omega)))
    unfold codes; pointwise; rfl
  | 2 => unfold codes; pointwise; rfl
  | 3 => unfold codes; pointwise; rfl

theorem qW_bit (q : Vec Ideal S1x64x256 .i8) (a : Fin 16) (b : Fin 256) (p : Fin 64) (t i : Nat) (ht : t < 4) (hi : i < 8) (hp : p.val = 4 * a.val + t) :
    (qW q (ix2 a b)).getLsbD (8 * t + i) = (q (ix3 0 p b)).getLsbD i := by
  unfold qW
  refine (bitcast_8_32_getLsbD_ix2 _ bitcasts_S64x256_w8_S16x256_w32 a b (8 * t + i) (by omega) p (by omega)).trans ?_
  rw [show (8 * t + i) % 8 = i by omega]
  congr 1
  show shapeCast S64x256 q _ (ix2 p b) = _
  pointwise

theorem hW_bit (h : Vec Ideal S1x32x256 .i8) (a : Fin 8) (b : Fin 256) (p : Fin 32) (t i : Nat) (ht : t < 4) (hi : i < 8) (hp : p.val = 4 * a.val + t) :
    (hW h (ix2 a b)).getLsbD (8 * t + i) = (h (ix3 0 p b)).getLsbD i := by
  unfold hW
  refine (bitcast_8_32_getLsbD_ix2 _ bitcasts_S32x256_w8_S8x256_w32 a b (8 * t + i) (by omega) p (by omega)).trans ?_
  rw [show (8 * t + i) % 8 = i by omega]
  congr 1
  show shapeCast S32x256 h _ (ix2 p b) = _
  pointwise

/-! ## The weights -/

/-- Row `k` of the weights: twice the integer of its weight times the entry of its plane. -/
def wRow (raw : Vec Ideal S8x1x2x256 .bf16) (q : Vec Ideal S1x64x256 .i8) (h : Vec Ideal S1x32x256 .i8) (k b : Fin 256) : EReal :=
  ((((2 * (aI (q (ix3 0 ⟨32 * (k.val / 128) + k.val % 64 / 2, by omega⟩ b)) (h (ix3 0 ⟨k.val % 64 / 2, by omega⟩ b)) (k.val / 128)
    (k.val / 64 % 2 + 2 * (k.val % 2))).toInt : Int) : ℝ)) : EReal) * raw (ix4 ⟨k.val / 32, by omega⟩ 0 ⟨k.val % 2, by omega⟩ b)

theorem row_val (raw : Vec Ideal S8x1x2x256 .bf16) (q : Vec Ideal S1x64x256 .i8) (h : Vec Ideal S1x32x256 .i8) (kc : Fin 4) (pl : Fin 8) (off : Nat)
    (h1 : S8x1x256.Slices ![pl.val, 0, 0] S1x1x256) (h2 : S64x256.Slices ![off, 0] S16x256) (r : Fin 16) (b k : Fin 256)
    (hoff : off + 16 ≤ 64) (hk : k.val = 64 * kc.val + off + r.val) (hpl : pl.val = k.val / 32) (hev : off % 2 = 0) :
    rows16 (nib (codes q h kc)) (scl raw ![pl.val, 0, 0] h1) ![off, 0] h2 (ix2 r b) = wRow raw q h k b := by
  unfold rows16
  pointwise
  have hr := r.isLt
  have hkc := kc.isLt
  rw [nib_apply, scl_apply, codes_apply]
  unfold wRow
  rw [nib_val kc ⟨(off + r.val) % 8, by omega⟩ _ _ (q (ix3 0 ⟨32 * (k.val / 128) + k.val % 64 / 2, by omega⟩ b)) (h (ix3 0 ⟨k.val % 64 / 2, by omega⟩ b))
    (fun i hi => qW_bit _ _ _ _ _ _ (by show (off + r.val) % 8 / 2 < 4; omega) hi (by
      show 32 * (k.val / 128) + k.val % 64 / 2 = 4 * (8 * (kc.val / 2) + (off + r.val) / 8) + (off + r.val) % 8 / 2; omega))
    (fun i hi => hW_bit _ _ _ _ _ _ (by show (off + r.val) % 8 / 2 < 4; omega) hi (by
      show k.val % 64 / 2 = 4 * ((off + r.val) / 8) + (off + r.val) % 8 / 2; omega))]
  have e1 : kc.val / 2 = k.val / 128 := by omega
  have e2 : kc.val % 2 + 2 * ((off + r.val) % 8 % 2) = k.val / 64 % 2 + 2 * (k.val % 2) := by omega
  have e3 : pl = ⟨k.val / 32, by omega⟩ := Fin.ext hpl
  have e4 : (⟨r.val % 2, Nat.mod_lt _ (by decide)⟩ : Fin 2) = ⟨k.val % 2, by omega⟩ := Fin.ext (by show r.val % 2 = k.val % 2; omega)
  rw [e4, e1]
  simp only [e2]
  rw [← e3]

theorem slicePl : ∀ n : Fin 16, S8x1x256.Slices ![n.val / 2, 0, 0] S1x1x256 := by decide
theorem sliceOff : ∀ n : Fin 16, S64x256.Slices ![16 * (n.val % 4), 0] S16x256 := by decide

/-- The `n`-th sixteen rows of the weights. -/
def rowsFn (raw : Vec Ideal S8x1x2x256 .bf16) (q : Vec Ideal S1x64x256 .i8) (h : Vec Ideal S1x32x256 .i8) (n : Fin 16) : FVec Ideal S16x256 .bf16 :=
  rows16 (nib (codes q h ⟨n.val / 4, by omega⟩)) (scl raw ![n.val / 2, 0, 0] (slicePl n)) ![16 * (n.val % 4), 0] (sliceOff n)

theorem wfn_apply (raw : Vec Ideal S8x1x2x256 .bf16) (q : Vec Ideal S1x64x256 .i8) (h : Vec Ideal S1x32x256 .i8) (k b : Fin 256) :
    wfn raw q h (ix2 k b) = wRow raw q h k b := by
  have e : wfn raw q h = concatenate S256x256 0 (List.ofFn fun n : Fin 16 => (⟨S16x256, rowsFn raw q h n⟩ : (s : Shape) × (s.Idx → EReal)))
    concatenates_S16x256_S16x256_S16x256_S16x256_S16x256_S16x256_S16x256_S16x256_S16x256_S16x256_S16x256_S16x256_S16x256_S16x256_S16x256_S16x256_S256x256_d0 := rfl
  refine (congrFun e _).trans ((concatenate_ofFn_apply (t := S256x256) (s₁ := S16x256) (0 : Fin 2) (rowsFn raw q h) _ rfl 16 rfl (ix2 k b) ⟨k.val / 16, by omega⟩ rfl (ix2 (⟨k.val % 16, Nat.mod_lt _ (by decide)⟩ : Fin 16) b) rfl
    (fun c hc => by
      match c with
      | 0 => exact absurd rfl hc
      | 1 => rfl)).trans ?_)
  unfold rowsFn
  exact row_val raw q h ⟨k.val / 16 / 4, by omega⟩ ⟨k.val / 16 / 2, by omega⟩ (16 * (k.val / 16 % 4)) _ _ ⟨k.val % 16, Nat.mod_lt _ (by decide)⟩ b k (by omega)
    (by show k.val = 64 * (k.val / 16 / 4) + 16 * (k.val / 16 % 4) + k.val % 16; omega) (by show k.val / 16 / 2 = k.val / 32; omega) (by omega)

/-! ## The reordered activations -/

/-- Where column `r` of a reordered block comes from. -/
def src (r : Nat) : Nat := 128 * (r / 128) + 64 * (r % 2) + 32 * (r / 64 % 2) + r % 64 / 2

theorem src_lt (r : Fin 256) : src r.val < 256 := by unfold src; omega

theorem pass_apply (v : FVec Ideal S256x256 .bf16) (x : FVec Ideal S128x256 .bf16) (s : Fin 128) (r : Fin 256) :
    (⟨.bf16, false, v⟩ : Mxu.Staged Ideal).pass (M := 128) (φ := .bf16) x (ix2 s r) = ∑ k : Fin 256, x (ix2 s k) * v (ix2 k r) := by
  show Ideal.mxuPass (DotDims.plain 128 256 256) x v (ix2 s r) = _
  have h := Ideal.matmul_plain_apply (φ₁ := .bf16) (φ₂ := .bf16) (M := 128) (K := 256) (N := 256) none x v (fun _ => (0 : EReal)) s r
  rw [Ideal.matmul_apply, zero_add, zero_add] at h
  exact h

/-- Where a column of a reordered block comes from, as the kernel computes it. -/
def ordE (x : BitVec 32) : BitVec 32 :=
  IntOp.addi (IntOp.addi (IntOp.addi (IntOp.muli (Scalar.select (IntOp.andi (IntOp.cmpi CmpIPredicate.ne (IntOp.subi
        (BitVec.setWidth 32 (IntOp.cmpi CmpIPredicate.sgt (IntOp.andi x 192#32) 0#32)) (BitVec.setWidth 32 (IntOp.cmpi CmpIPredicate.slt (IntOp.andi x 192#32) 0#32)))
        (Scalar.subi (Scalar.extui (Scalar.cmpi CmpIPredicate.sgt 128#32 0#32)) (Scalar.extui (Scalar.cmpi CmpIPredicate.slt 128#32 0#32))))
      (IntOp.cmpi CmpIPredicate.ne (IntOp.remsi ArithUnit.vector (IntOp.andi x 192#32) 128#32) 0#32))
    (IntOp.subi (IntOp.divsi ArithUnit.vector (IntOp.andi x 192#32) 128#32) 1#32) (IntOp.divsi ArithUnit.vector (IntOp.andi x 192#32) 128#32)) 128#32) (IntOp.muli (IntOp.andi x 1#32) 64#32))
    (IntOp.muli (Scalar.select (IntOp.andi (IntOp.cmpi CmpIPredicate.ne (IntOp.subi
        (BitVec.setWidth 32 (IntOp.cmpi CmpIPredicate.sgt (IntOp.andi x 64#32) 0#32)) (BitVec.setWidth 32 (IntOp.cmpi CmpIPredicate.slt (IntOp.andi x 64#32) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (IntOp.andi x 64#32) 64#32) 0#32))
    (IntOp.subi (IntOp.divsi ArithUnit.vector (IntOp.andi x 64#32) 64#32) 1#32) (IntOp.divsi ArithUnit.vector (IntOp.andi x 64#32) 64#32)) 32#32)) (Scalar.select (IntOp.andi (IntOp.cmpi CmpIPredicate.ne (IntOp.subi
        (BitVec.setWidth 32 (IntOp.cmpi CmpIPredicate.sgt (IntOp.andi x 63#32) 0#32)) (BitVec.setWidth 32 (IntOp.cmpi CmpIPredicate.slt (IntOp.andi x 63#32) 0#32)))
        (Scalar.subi (Scalar.extui (Scalar.cmpi CmpIPredicate.sgt 2#32 0#32)) (Scalar.extui (Scalar.cmpi CmpIPredicate.slt 2#32 0#32))))
      (IntOp.cmpi CmpIPredicate.ne (IntOp.remsi ArithUnit.vector (IntOp.andi x 63#32) 2#32) 0#32))
    (IntOp.subi (IntOp.divsi ArithUnit.vector (IntOp.andi x 63#32) 2#32) 1#32) (IntOp.divsi ArithUnit.vector (IntOp.andi x 63#32) 2#32))

theorem ordE_val : ∀ r : Fin 256, ordE (BitVec.ofNat 32 r.val) = BitVec.ofNat 32 (src r.val) := by decide +kernel

theorem ordW_apply (k r : Fin 256) : ordW (F := Ideal) (ix2 k r) = if k.val = src r.val then 1 else 0 := by
  unfold ordW
  pointwise
  show Scalar.select (IntOp.cmpi CmpIPredicate.eq (BitVec.ofNat 32 k.val) (ordE (BitVec.ofNat 32 r.val))) (1 : EReal) 0 = _
  rw [ordE_val]
  have hs := src_lt r
  have hk := k.isLt
  by_cases h : k.val = src r.val
  · rw [if_pos h, h]
    show (if (BitVec.ofBool (BitVec.ofNat 32 (src r.val) == BitVec.ofNat 32 (src r.val))) = 1#1 then (1 : EReal) else 0) = 1
    rw [beq_self_eq_true]; rfl
  · rw [if_neg h]
    show (if (BitVec.ofBool (BitVec.ofNat 32 k.val == BitVec.ofNat 32 (src r.val))) = 1#1 then (1 : EReal) else 0) = 0
    have hne : (BitVec.ofNat 32 k.val == BitVec.ofNat 32 (src r.val)) = false := by
      refine beq_eq_false_iff_ne.mpr fun e => h ?_
      have e2 := congrArg BitVec.toNat e
      rw [BitVec.toNat_ofNat, BitVec.toNat_ofNat, Nat.mod_eq_of_lt (by omega), Nat.mod_eq_of_lt (by omega)] at e2
      exact e2
    rw [hne]; rfl

theorem ordVal_apply (x : Vec Ideal S128x7168 .bf16) (b : Fin 28) (s : Fin 128) (r : Fin 256) :
    ordVal x b (ix2 s r) = x (ix2 s ⟨256 * b.val + src r.val, by have := src_lt r; omega⟩) := by
  unfold ordVal
  rw [show ∀ (v : FVec Ideal S128x256 .bf16), shapeCast S128x256 v shapeCasts_S128x256_S128x256 (ix2 s r) = v (ix2 s r) from fun v => by pointwise]
  show (⟨.bf16, false, ordW⟩ : Mxu.Staged Ideal).pass (M := 128) (φ := .bf16) _ (ix2 s r) = _
  rw [pass_apply]
  have e : ∀ k : Fin 256, (shapeCast S128x256 (xOf x b) shapeCasts_S128x256_S128x256 : FVec Ideal S128x256 .bf16) (ix2 s k) * ordW (F := Ideal) (ix2 k r) =
      if k = ⟨src r.val, src_lt r⟩ then (xOf x b) (ix2 s k) else 0 := by
    intro k
    rw [ordW_apply, show ∀ (v : FVec Ideal S128x256 .bf16), shapeCast S128x256 v shapeCasts_S128x256_S128x256 (ix2 s k) = v (ix2 s k) from fun v => by pointwise]
    by_cases h : k.val = src r.val
    · rw [if_pos h, if_pos (Fin.ext h), mul_one]
    · rw [if_neg h, if_neg (fun h2 => h (congrArg Fin.val h2)), mul_zero]
  rw [Finset.sum_congr rfl (fun k _ => e k), Finset.sum_ite_eq' Finset.univ, if_pos (Finset.mem_univ _)]
  show x ((rX b).emb _) = _
  refine congrArg x (funext fun c => Fin.ext ?_)
  rw [Rect.emb_apply]
  match c with
  | 0 => show 0 + 1 * s.val = s.val; omega
  | 1 => show 256 * b.val + 1 * src r.val = 256 * b.val + src r.val; omega

end Cert.Proof.Val
-- ==== Proof.Val.Out.lean ====
module

public import proofs.«01_k».proof.Proof.Val.Ker

/-! The kernel's tile at an index, as one sum. -/

@[expose] public section

set_option maxRecDepth 16384

noncomputable section

namespace Cert.Proof.Val

open Idealize.ShloMosaic Idealize.ShloMosaic.TcCoe Idealize.ShloMosaic.StableHlo
open Cert.KernelIdeal Cert.KernelIdeal.Facts₀ Cert.KernelIdeal.Facts Cert.Proof.PI

/-! ## A block's product -/

/-- Row `r` of block `b`'s weights at column `c` of the tile. -/
def kW (I : Ins Ideal) (b : Fin 28) (r : Fin 256) (c : Fin 512) : EReal :=
  ((((2 * (aI (I.q (ix3 b ⟨32 * (r.val / 128) + r.val % 64 / 2, by omega⟩ c)) (I.h (ix3 b ⟨r.val % 64 / 2, by omega⟩ c)) (r.val / 128)
    (r.val / 64 % 2 + 2 * (r.val % 2))).toInt : Int) : ℝ)) : EReal) * (halfE (I.d (ix2 b c)) *
      (((sc6 (I.s (ix3 ⟨r.val / 32 % 4 + 4 * (r.val % 2), by omega⟩ b c)) (I.s (ix3 ⟨8 + r.val / 32 % 4, by omega⟩ b c)) (4 * (r.val / 32 / 4))
        (2 * (2 * (r.val / 32 / 4) + r.val % 2))).toInt : ℝ) : EReal))

/-- Column `c` of half `m` of the tile. -/
def colOf (m : Fin 2) (c : Fin 256) : Fin 512 := ⟨256 * m.val + c.val, by omega⟩

theorem wRow_tile (I : Ins Ideal) (b : Fin 28) (m : Fin 2) (r c : Fin 256) :
    wRow (rawOf (wordOf I) b m) (fun y => I.q ((rQ b m).emb y)) (fun y => I.h ((rH b m).emb y)) r c = kW I b r (colOf m c) := by
  have hq : ∀ p : Fin 64, I.q ((rQ b m).emb (ix3 0 p c)) = I.q (ix3 b p (colOf m c)) := fun p => congrArg I.q (funext fun a => Fin.ext (by
    rw [Rect.emb_apply]
    match a with
    | 0 => show b.val + 1 * 0 = b.val; omega
    | 1 => show 0 + 1 * p.val = p.val; omega
    | 2 => show 256 * m.val + 1 * c.val = 256 * m.val + c.val; omega))
  have hh : ∀ p : Fin 32, I.h ((rH b m).emb (ix3 0 p c)) = I.h (ix3 b p (colOf m c)) := fun p => congrArg I.h (funext fun a => Fin.ext (by
    rw [Rect.emb_apply]
    match a with
    | 0 => show b.val + 1 * 0 = b.val; omega
    | 1 => show 0 + 1 * p.val = p.val; omega
    | 2 => show 256 * m.val + 1 * c.val = 256 * m.val + c.val; omega))
  have hr : ∀ (pl : Fin 8) (p : Fin 2), rawOf (wordOf I) b m (ix4 pl 0 p c) = wordOf I pl (ix4 0 b p (colOf m c)) := fun pl p =>
    congrArg (wordOf I pl) (funext fun a => by
      match a with
      | ⟨0, _⟩ => rfl
      | ⟨1, _⟩ => rfl
      | ⟨2, _⟩ => rfl
      | ⟨3, _⟩ => rfl)
  unfold wRow kW
  simp only [hq, hh, hr, wordOf_apply]

theorem passOf_apply (I : Ins Ideal) (b : Fin 28) (m : Fin 2) (s : Fin 128) (c : Fin 256) :
    passOf I b m (ix2 s c) = ∑ r : Fin 256, I.x (ix2 s ⟨256 * b.val + src r.val, by have := src_lt r; omega⟩) * kW I b r (colOf m c) := by
  unfold passOf passWith
  rw [pass_apply]
  refine Finset.sum_congr rfl fun r _ => ?_
  rw [ordVal_apply, wfn_apply, wRow_tile]

/-! ## The sum over the blocks -/

theorem accs_some (P : Fin 28 → FVec Ideal (Mxu.STile 128) .f32) (bs : List (Fin 28)) : ∀ e : FVec Ideal (Mxu.STile 128) .f32,
    accs P bs (some e) = some (fun j => e j + (bs.map fun b => P b j).sum) := by
  induction bs with
  | nil => intro e; show some e = _; congr 1; funext j; simp
  | cons b bs ih =>
    intro e
    show accs P bs (some (addf e (P b))) = _
    rw [ih]
    congr 1
    funext j
    show (e j + P b j) + _ = _
    rw [List.map_cons, List.sum_cons, add_assoc]

theorem allBlocks_eq : allBlocks = List.finRange 28 := by decide

theorem accs_all (P : Fin 28 → FVec Ideal (Mxu.STile 128) .f32) (j : (Mxu.STile 128).Idx) (z : FVec Ideal (Mxu.STile 128) .f32) :
    ((accs P allBlocks none).getD z) j = ∑ b : Fin 28, P b j := by
  obtain ⟨t, ht⟩ : ∃ t, allBlocks = 0 :: t := ⟨_, rfl⟩
  rw [Fin.sum_univ_def, ← allBlocks_eq, ht, List.map_cons, List.sum_cons]
  have e : accs P (0 :: t) none = accs P t (some (P 0)) := by unfold accs; rw [List.foldl_cons]; rfl
  rw [e, accs_some, Option.getD_some]

theorem outTile_apply (I : Ins Ideal) (m : Fin 2) (s : Fin 128) (c : Fin 256) :
    outTile I m (ix2 s c) = ∑ b : Fin 28, ∑ r : Fin 256, I.x (ix2 s ⟨256 * b.val + src r.val, by have := src_lt r; omega⟩) * kW I b r (colOf m c) := by
  unfold outTile
  refine (accs_all (fun b => passOf I b m) (ix2 s c) (constant (F := Ideal) (Mxu.STile 128) .f32 0)).trans ?_
  exact Finset.sum_congr rfl fun b _ => passOf_apply I b m s c

theorem outBlk_apply (I : Ins Ideal) (s : Fin 128) (c : Fin 512) :
    outBlk I (ix2 s c) = ∑ b : Fin 28, ∑ r : Fin 256, I.x (ix2 s ⟨256 * b.val + src r.val, by have := src_lt r; omega⟩) * kW I b r c := by
  have hm : c.val / 256 < 2 := by omega
  have e : (rO ⟨c.val / 256, hm⟩).emb (ix2 s (⟨c.val % 256, Nat.mod_lt _ (by decide)⟩ : Fin 256)) = (ix2 s c : S128x512.Idx) := funext fun a => Fin.ext (by
    rw [Rect.emb_apply]
    match a with
    | 0 => show 0 + 1 * s.val = s.val; omega
    | 1 => show 256 * (c.val / 256) + 1 * (c.val % 256) = c.val; omega)
  have ec : colOf ⟨c.val / 256, hm⟩ ⟨c.val % 256, Nat.mod_lt _ (by decide)⟩ = c := Fin.ext (by show 256 * (c.val / 256) + c.val % 256 = c.val; omega)
  have h := (outBlk_emb I ⟨c.val / 256, hm⟩ (ix2 s (⟨c.val % 256, Nat.mod_lt _ (by decide)⟩ : Fin 256))).trans (outTile_apply I _ s _)
  rw [e, ec] at h
  exact h

/-! ## The rows in the reference's order -/

/-- The row of the weights that holds half `k`, quarter `j`, lane `l`. -/
def enc (k : Fin 2) (j : Fin 4) (l : Fin 32) : Fin 256 := ⟨128 * k.val + 64 * (j.val % 2) + 2 * l.val + j.val / 2, by omega⟩

theorem enc_facts : ∀ (k : Fin 2) (j : Fin 4) (l : Fin 32), (enc k j l).val / 128 = k.val ∧ (enc k j l).val % 64 / 2 = l.val ∧
    (enc k j l).val / 64 % 2 + 2 * ((enc k j l).val % 2) = j.val ∧ (enc k j l).val / 32 / 4 = k.val ∧ (enc k j l).val % 2 = j.val / 2 ∧
    (enc k j l).val / 32 % 4 + 4 * (j.val / 2) = (2 * j.val + l.val / 16) % 8 ∧ (enc k j l).val / 32 % 4 = (2 * j.val + l.val / 16) % 4 ∧
    src (enc k j l).val = k.val * 128 + j.val * 32 + l.val := by decide +kernel

theorem enc_dec : ∀ r : Fin 256, enc ⟨r.val / 128, by omega⟩ ⟨r.val / 64 % 2 + 2 * (r.val % 2), by omega⟩ ⟨r.val % 64 / 2, by omega⟩ = r := by decide +kernel

def encE : Fin 2 × Fin 4 × Fin 32 ≃ Fin 256 where
  toFun p := enc p.1 p.2.1 p.2.2
  invFun r := (⟨r.val / 128, by omega⟩, ⟨r.val / 64 % 2 + 2 * (r.val % 2), by omega⟩, ⟨r.val % 64 / 2, by omega⟩)
  left_inv := fun ⟨k, j, l⟩ => by
    obtain ⟨e1, e2, e3, -⟩ := enc_facts k j l
    exact Prod.ext (Fin.ext e1) (Prod.ext (Fin.ext e3) (Fin.ext e2))
  right_inv := enc_dec

theorem encE_apply (k : Fin 2) (j : Fin 4) (l : Fin 32) : encE (k, j, l) = enc k j l := by unfold encE; rfl

theorem sum_rows (f : Fin 256 → EReal) : ∑ r, f r = ∑ k : Fin 2, ∑ j : Fin 4, ∑ l : Fin 32, f (enc k j l) := by
  rw [← Equiv.sum_comp encE f, Fintype.sum_prod_type]
  refine Finset.sum_congr rfl fun k _ => ?_
  rw [Fintype.sum_prod_type]
  exact Finset.sum_congr rfl fun j _ => Finset.sum_congr rfl fun l _ => by rw [encE_apply]

/-- What both programs compute at a row of activations and a row of weights: over halves, quarters, lanes and blocks, the
    activation times the weight's integer times its group's scale. -/
def specY (X : Fin 7168 → EReal) (Q : Fin 28 → Fin 64 → BitVec 8) (H : Fin 28 → Fin 32 → BitVec 8) (S : Fin 28 → Fin 12 → BitVec 8)
    (D : Fin 28 → BitVec 16) : EReal :=
  ∑ k : Fin 2, ∑ j : Fin 4, ∑ l : Fin 32, ∑ n : Fin 28, X ⟨n.val * 256 + k.val * 128 + j.val * 32 + l.val, by omega⟩ *
    ((((aI (Q n ⟨32 * k.val + l.val, by omega⟩) (H n l) k.val j.val).toInt : ℝ) : EReal) * (Ideal.ofBits .f16 (D n) *
      (((sc6 (S n ⟨(2 * j.val + l.val / 16) % 8, by omega⟩) (S n ⟨8 + (2 * j.val + l.val / 16) % 4, by omega⟩) (4 * k.val)
        (2 * (2 * k.val + j.val / 2))).toInt : ℝ) : EReal)))

theorem two_mul_cast (a : Int) : (((2 * a : Int) : ℝ) : EReal) = ((a : ℝ) : EReal) * 2 := by
  rw [Int.cast_mul, mul_comm, EReal.coe_mul]; rfl

theorem kW_enc (I : Ins Ideal) (b : Fin 28) (k : Fin 2) (j : Fin 4) (l : Fin 32) (c : Fin 512) :
    kW I b (enc k j l) c = (((aI (I.q (ix3 b ⟨32 * k.val + l.val, by omega⟩ c)) (I.h (ix3 b l c)) k.val j.val).toInt : ℝ) : EReal) *
      (Ideal.ofBits .f16 (I.d (ix2 b c)) * (((sc6 (I.s (ix3 ⟨(2 * j.val + l.val / 16) % 8, by omega⟩ b c))
        (I.s (ix3 ⟨8 + (2 * j.val + l.val / 16) % 4, by omega⟩ b c)) (4 * k.val) (2 * (2 * k.val + j.val / 2))).toInt : ℝ) : EReal)) := by
  obtain ⟨e1, e2, e3, e4, e5, e6, e7, -⟩ := enc_facts k j l
  unfold kW
  simp only [e1, e2, e3, e4]
  simp only [e5]
  simp only [e6]
  simp only [e7]
  rw [two_mul_cast, ← two_halfE, mul_assoc, mul_assoc]

theorem src_enc (k : Fin 2) (j : Fin 4) (l : Fin 32) : src (enc k j l).val = k.val * 128 + j.val * 32 + l.val := (enc_facts k j l).2.2.2.2.2.2.2

/-- The tile at an index. -/
theorem outBlk_spec (I : Ins Ideal) (s : Fin 128) (c : Fin 512) :
    outBlk I (ix2 s c) = specY (fun n => I.x (ix2 s n)) (fun n p => I.q (ix3 n p c)) (fun n p => I.h (ix3 n p c)) (fun n p => I.s (ix3 p n c))
      (fun n => I.d (ix2 n c)) := by
  rw [outBlk_apply]
  unfold specY
  have e : ∀ b : Fin 28, ∑ r : Fin 256, I.x (ix2 s ⟨256 * b.val + src r.val, by have := src_lt r; omega⟩) * kW I b r c =
      ∑ k : Fin 2, ∑ j : Fin 4, ∑ l : Fin 32, I.x (ix2 s ⟨b.val * 256 + k.val * 128 + j.val * 32 + l.val, by omega⟩) *
        ((((aI (I.q (ix3 b ⟨32 * k.val + l.val, by omega⟩ c)) (I.h (ix3 b l c)) k.val j.val).toInt : ℝ) : EReal) *
      (Ideal.ofBits .f16 (I.d (ix2 b c)) * (((sc6 (I.s (ix3 ⟨(2 * j.val + l.val / 16) % 8, by omega⟩ b c))
        (I.s (ix3 ⟨8 + (2 * j.val + l.val / 16) % 4, by omega⟩ b c)) (4 * k.val) (2 * (2 * k.val + j.val / 2))).toInt : ℝ) : EReal))) := by
    intro b
    rw [sum_rows]
    refine Finset.sum_congr rfl fun k _ => Finset.sum_congr rfl fun j _ => Finset.sum_congr rfl fun l _ => ?_
    rw [kW_enc]
    congr 3
    refine Fin.ext ?_
    show 256 * b.val + src (enc k j l).val = b.val * 256 + k.val * 128 + j.val * 32 + l.val
    rw [src_enc]; omega
  rw [Finset.sum_congr rfl (fun b _ => e b), Finset.sum_comm]
  refine Finset.sum_congr rfl fun k _ => ?_
  rw [Finset.sum_comm]
  refine Finset.sum_congr rfl fun j _ => ?_
  rw [Finset.sum_comm]

end Cert.Proof.Val
-- ==== Proof.Val.KerEnd.lean ====
module

public import proofs.«01_k».proof.Proof.PI.Run
public import proofs.«01_k».proof.Proof.Val.Out
public import Idealize.ShloMosaic.Lib.StableHlo.RunRead
public import Idealize.ShloMosaic.Lib.Pipeline.ValueKit

/-! What the kernel leaves in its result: at every index the sum `specY` of the arguments' rows. -/

@[expose] public section

set_option maxRecDepth 16384

noncomputable section

namespace Cert.Proof.Val

open Idealize.ShloMosaic Idealize.ShloMosaic.TcCoe Idealize.ShloMosaic.StableHlo Idealize.SL.Sem
open Cert.KernelIdeal Cert.KernelIdeal.Facts₀ Cert.KernelIdeal.Facts Cert.KernelIdeal.Gen Cert.Proof.PI

variable (m : (ℓ : Loc nD τ sig) → Buf (Elt Ideal) ℓ)

/-- The kernel's result at a row of activations and a row of weights. -/
def kY (c : Dev nD) (s : Fin 128) (o : Fin 18432) : EReal :=
  specY (fun n => (m ((c.tc : Thread nD τ).loc main_arg0) : FVec Ideal S1x128x7168 .bf16) (ix3 0 s n))
    (fun n p => (m ((c.tc : Thread nD τ).loc main_arg2) : IVec S18432x28x64 8) (ix3 o n p))
    (fun n p => (m ((c.tc : Thread nD τ).loc main_arg1) : IVec S18432x28x32 8) (ix3 o n p))
    (fun n p => (m ((c.tc : Thread nD τ).loc main_arg3) : IVec S18432x28x12 8) (ix3 o n p))
    (fun n => (m ((c.tc : Thread nD τ).loc main_arg4) : IVec S18432x28 16) (ix2 o n))

/-- The reshaped activations as the region finds them. -/
theorem V_v0 (c : Dev nD) : V m c main_v0 = (shapeCast S128x7168 (m ((c.tc : Thread nD τ).loc main_arg0) : FVec Ideal S1x128x7168 .bf16) Facts₀.shapeCasts_S1x128x7168_S128x7168 : FVec Ideal S128x7168 .bf16) := by
  show after hostOps0 _ _ = _
  after_reads_simp
  rfl
/-- The high bits as the region finds them. -/
theorem V_v1 (c : Dev nD) : V m c main_v1 = transpose S28x32x18432 [1, 2, 0] (m ((c.tc : Thread nD τ).loc main_arg1) : IVec S18432x28x32 8) Facts₀.transposes_S18432x28x32_S28x32x18432_1_2_0 := by
  show after hostOps0 _ _ = _
  after_reads_simp
/-- The low bits as the region finds them. -/
theorem V_v2 (c : Dev nD) : V m c main_v2 = transpose S28x64x18432 [1, 2, 0] (m ((c.tc : Thread nD τ).loc main_arg2) : IVec S18432x28x64 8) Facts₀.transposes_S18432x28x64_S28x64x18432_1_2_0 := by
  show after hostOps0 _ _ = _
  after_reads_simp
/-- The scales' bytes as the region finds them. -/
theorem V_v3 (c : Dev nD) : V m c main_v3 = transpose S12x28x18432 [2, 1, 0] (m ((c.tc : Thread nD τ).loc main_arg3) : IVec S18432x28x12 8) Facts₀.transposes_S18432x28x12_S12x28x18432_2_1_0 := by
  show after hostOps0 _ _ = _
  after_reads_simp
/-- The block scales' bit patterns as the region finds them. -/
theorem V_v4 (c : Dev nD) : V m c main_v4 = transpose S28x18432 [1, 0] (m ((c.tc : Thread nD τ).loc main_arg4) : IVec S18432x28 16) Facts₀.transposes_S18432x28_S28x18432_1_0 := by
  show after hostOps0 _ _ = _
  after_reads_simp

/-- Each window's block index at a point: the activations' is constant, the others move along the weight rows. -/
theorem idx0 : ∀ t : Fin cfg0.N, (cfg0.win 0).index t = ![0, 0] ∧ (cfg0.win 5).index t = ![0, t.val] ∧ (cfg0.win 1).index t = ![0, 0, t.val] ∧ (cfg0.win 2).index t = ![0, 0, t.val] ∧ (cfg0.win 3).index t = ![0, 0, t.val] ∧ (cfg0.win 4).index t = ![0, t.val] := by
  decide +kernel

/-- The reshaped activations at a row and a column. -/
theorem v0_at (X : FVec Ideal S1x128x7168 .bf16) (s : Fin 128) (n : Fin 7168) :
    shapeCast S128x7168 X Facts₀.shapeCasts_S1x128x7168_S128x7168 (ix2 s n) = X (ix3 0 s n) := by
  pointwise
/-- The transposed operand 1 at an index. -/
theorem v1_at (X : IVec S18432x28x32 8) (o : Fin 18432) (n : Fin 28) (p : Fin 32) :
    transpose S28x32x18432 [1, 2, 0] X Facts₀.transposes_S18432x28x32_S28x32x18432_1_2_0 (ix3 n p o) = X (ix3 o n p) := by
  pointwise
/-- The transposed operand 2 at an index. -/
theorem v2_at (X : IVec S18432x28x64 8) (o : Fin 18432) (n : Fin 28) (p : Fin 64) :
    transpose S28x64x18432 [1, 2, 0] X Facts₀.transposes_S18432x28x64_S28x64x18432_1_2_0 (ix3 n p o) = X (ix3 o n p) := by
  pointwise
/-- The transposed operand 3 at an index. -/
theorem v3_at (X : IVec S18432x28x12 8) (o : Fin 18432) (n : Fin 28) (p : Fin 12) :
    transpose S12x28x18432 [2, 1, 0] X Facts₀.transposes_S18432x28x12_S12x28x18432_2_1_0 (ix3 p n o) = X (ix3 o n p) := by
  pointwise
/-- The transposed operand 4 at an index. -/
theorem v4_at (X : IVec S18432x28 16) (o : Fin 18432) (n : Fin 28) :
    transpose S28x18432 [1, 0] X Facts₀.transposes_S18432x28_S28x18432_1_0 (ix2 n o) = X (ix2 o n) := by
  pointwise

/-- The activations' block at a point: the whole array. -/
theorem blk0 (c : Dev nD) (t : Fin cfg0.N) (s : Fin 128) (n : Fin 7168) :
    iblk m c 0 t (ix2 s n) = (m ((c.tc : Thread nD τ).loc main_arg0) : FVec Ideal S1x128x7168 .bf16) (ix3 0 s n) := by
  have e : (win0_0.blk t).view.emb (ix2 s n) = (ix2 s n : S128x7168.Idx) := by blk_ext [(idx0 t).1]
  exact (congrArg (V m c main_v0) e).trans ((congrFun (V_v0 m c) _).trans (v0_at _ s n))
/-- Operand 1's block at a point: the weight rows of the point. -/
theorem blk1 (c : Dev nD) (t : Fin cfg0.N) (n : Fin 28) (p : Fin 32) (q : Fin 512) (o : Fin 18432) (h : o.val = t.val * 512 + q.val) :
    iblk m c 1 t (ix3 n p q) = (m ((c.tc : Thread nD τ).loc main_arg1) : IVec S18432x28x32 8) (ix3 o n p) := by
  have e : (win0_1.blk t).view.emb (ix3 n p q) = (ix3 n p o : S28x32x18432.Idx) := by blk_ext [(idx0 t).2.2.1]
  exact (congrArg (V m c main_v1) e).trans ((congrFun (V_v1 m c) _).trans (v1_at _ o n p))
/-- Operand 2's block at a point: the weight rows of the point. -/
theorem blk2 (c : Dev nD) (t : Fin cfg0.N) (n : Fin 28) (p : Fin 64) (q : Fin 512) (o : Fin 18432) (h : o.val = t.val * 512 + q.val) :
    iblk m c 2 t (ix3 n p q) = (m ((c.tc : Thread nD τ).loc main_arg2) : IVec S18432x28x64 8) (ix3 o n p) := by
  have e : (win0_2.blk t).view.emb (ix3 n p q) = (ix3 n p o : S28x64x18432.Idx) := by blk_ext [(idx0 t).2.2.2.1]
  exact (congrArg (V m c main_v2) e).trans ((congrFun (V_v2 m c) _).trans (v2_at _ o n p))
/-- Operand 3's block at a point: the weight rows of the point. -/
theorem blk3 (c : Dev nD) (t : Fin cfg0.N) (n : Fin 28) (p : Fin 12) (q : Fin 512) (o : Fin 18432) (h : o.val = t.val * 512 + q.val) :
    iblk m c 3 t (ix3 p n q) = (m ((c.tc : Thread nD τ).loc main_arg3) : IVec S18432x28x12 8) (ix3 o n p) := by
  have e : (win0_3.blk t).view.emb (ix3 p n q) = (ix3 p n o : S12x28x18432.Idx) := by blk_ext [(idx0 t).2.2.2.2.1]
  exact (congrArg (V m c main_v3) e).trans ((congrFun (V_v3 m c) _).trans (v3_at _ o n p))
/-- Operand 4's block at a point: the weight rows of the point. -/
theorem blk4 (c : Dev nD) (t : Fin cfg0.N) (n : Fin 28) (q : Fin 512) (o : Fin 18432) (h : o.val = t.val * 512 + q.val) :
    iblk m c 4 t (ix2 n q) = (m ((c.tc : Thread nD τ).loc main_arg4) : IVec S18432x28 16) (ix2 o n) := by
  have e : (win0_4.blk t).view.emb (ix2 n q) = (ix2 n o : S28x18432.Idx) := by blk_ext [(idx0 t).2.2.2.2.2]
  exact (congrArg (V m c main_v4) e).trans ((congrFun (V_v4 m c) _).trans (v4_at _ o n))

/-- What a point leaves in the output's block. -/
theorem out_at (c : Dev nD) (t : Fin cfg0.N) (s : Fin 128) (q : Fin 512) (o : Fin 18432) (h : o.val = t.val * 512 + q.val) :
    outBlk (ins m c t) (ix2 s q) = kY m c s o := by
  refine (outBlk_spec (ins m c t) s q).trans ?_
  unfold kY
  have e0 : (fun n => (ins m c t).x (ix2 s n)) = _ := funext fun n => blk0 m c t s n
  have e1 : (fun n p => (ins m c t).h (ix3 n p q)) = _ := funext fun n => funext fun p => blk1 m c t n p q o h
  have e2 : (fun n p => (ins m c t).q (ix3 n p q)) = _ := funext fun n => funext fun p => blk2 m c t n p q o h
  have e3 : (fun n p => (ins m c t).s (ix3 p n q)) = _ := funext fun n => funext fun p => blk3 m c t n p q o h
  have e4 : (fun n => (ins m c t).d (ix2 n q)) = _ := funext fun n => blk4 m c t n q o h
  rw [e0, e1, e2, e3, e4]

set_option maxHeartbeats 1000000 in
/-- The array of the output window at the end. -/
theorem arr5 (c : Dev nD) : (PI.dats m 0 c).arrAt 5 cfg0.N = (fun i : S128x18432.Idx => kY m c (i 0) (i 1) : FVec Ideal S128x18432 .bf16) := by
  refine (PI.dats m 0 c).arrAt_eq_of_covers 5 _ (by decide +kernel) fun t hf y => ?_
  rw [after0_5]
  have e0 : ((win0_5.blk t).view.emb y) 0 = (y 0 : Fin 128) := by
    refine Fin.ext ?_
    blk_simp [(idx0 t).2.1]
  refine (congrArg (outBlk (ins m c t)) (ix2_eta y).symm).trans ((out_at m c t _ _ (((win0_5.blk t).view.emb y) 1) ?_).trans ?_)
  · blk_simp [(idx0 t).2.1]
  · exact congrArg (fun z => kY m c z _) e0.symm

/-- The reshaped result at an index. -/
theorem v6_at (X : FVec Ideal S128x18432 .bf16) (a : Fin 1) (s : Fin 128) (o : Fin 18432) :
    shapeCast S1x128x18432 X Facts₀.shapeCasts_S128x18432_S1x128x18432 (ix3 a s o) = X (ix2 s o) := by
  pointwise

/-- The result's buffer after the last reshape. -/
theorem res_v6 (c : Dev nD) : Pipeline.afterTail₀ cfgs (PI.dats m) 0 (V0 m) [hostOps1] c main_v6
    = (fun i : S1x128x18432.Idx => kY m c (i 1) (i 2) : FVec Ideal S1x128x18432 .bf16) := by
  have e := (Pipeline.withArrays_arr spec0 (by decide) c (V0 m c) (fun w => (PI.dats m 0 c).arrAt w cfg0.N) 5).trans (arr5 m c)
  have f : Pipeline.afterTail₀ cfgs (PI.dats m) 0 (V0 m) [hostOps1] c main_v6
      = (shapeCast S1x128x18432 (Pipeline.withArrays spec0 c (V0 m c) (fun w => (PI.dats m 0 c).arrAt w cfg0.N) (Proc.devRef .tc main_v5) : FVec Ideal S128x18432 .bf16)
          Facts₀.shapeCasts_S128x18432_S1x128x18432 : FVec Ideal S1x128x18432 .bf16) := by
    show after hostOps1 _ _ = _
    after_reads_simp
    rfl
  refine f.trans ((congrArg (fun X : FVec Ideal S128x18432 .bf16 => shapeCast S1x128x18432 X Facts₀.shapeCasts_S128x18432_S1x128x18432) e).trans ?_)
  funext i
  refine (congrArg _ (ix3_eta i).symm).trans ?_
  exact v6_at _ _ _ _

/-- The kernel's run: its result at every index, its arguments unchanged. -/
theorem ker_run (g : Dev nD → PrngReg) :
    θ_run (defs (F := Ideal)) (onTc (τ := τ) (main (F := Ideal))) ⟨m, fun _ => 0, g⟩ (fun r => ∀ c : Dev nD,
      r.2.mem ((c.tc : Thread nD τ).loc main_v6) = (fun i : S1x128x18432.Idx => kY m c (i 1) (i 2) : FVec Ideal S1x128x18432 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨((h.1 c).2 main_v6 (Pipeline.mem_restRefs_of main_v6 (by decide) (by decide))).trans (res_v6 m c), h.2 c⟩)
    (θ_run_and (PI.run_main m g) (PI.unchanged m g))

end Cert.Proof.Val
-- ==== Proof.Val.Ref.lean ====
module

public import proofs.«01_k».proof.Proof.Gen.ReferenceIdeal.Frame
public import Idealize.ShloMosaic.Lib.StableHlo.RunRead

/-! What the reference program leaves in its result, as a term over its arguments' contents and the widened scales. -/

@[expose] public section

set_option maxRecDepth 16384

noncomputable section

namespace Cert.Proof.Val

open Idealize.ShloMosaic Idealize.ShloMosaic.TcCoe Idealize.ShloMosaic.StableHlo
open Cert.ReferenceIdeal Cert.ReferenceIdeal.Facts₀ Cert.ReferenceIdeal.Facts

variable {F : FTy → Type} [FloatOps F]

/-- The groups' six-bit scales less 32, from the packed bytes. -/
def refSc (s : IVec S18432x28x12 8) : IVec S18432x28x16 32 :=
  let v1 := extui 32 s natLt_8_32
  let v2 := extractStridedSlice S18432x28x8 ![0, 0, 0] v1 slices_S18432x28x12_S18432x28x8_0_0_0
  let v4 := andi v2 (broadcastInDim S18432x28x8 ![] bcast_S_S18432x28x8 (constantI S_ 32 15#32))
  let v6 := Host.shrsi v2 (broadcastInDim S18432x28x8 ![] bcast_S_S18432x28x8 (constantI S_ 32 4#32))
  let v7 := concatenate S18432x28x16 2 [⟨S18432x28x8, v4⟩, ⟨S18432x28x8, v6⟩] concatenates_S18432x28x8_S18432x28x8_S18432x28x16_d2
  let v8 := extractStridedSlice S18432x28x4 ![0, 0, 8] v1 slices_S18432x28x12_S18432x28x4_0_0_8
  let hi := fun b : BitVec 32 => broadcastInDim S18432x28x1x4 ![0, 1, 3] bcast_S18432x28x4_S18432x28x1x4_0_1_3
    (andi (Host.shrsi v8 (broadcastInDim S18432x28x4 ![] bcast_S_S18432x28x4 (constantI S_ 32 b)))
      (broadcastInDim S18432x28x4 ![] bcast_S_S18432x28x4 (constantI S_ 32 3#32)))
  let v29 := concatenate S18432x28x4x4 2 [⟨S18432x28x1x4, hi 0#32⟩, ⟨S18432x28x1x4, hi 2#32⟩, ⟨S18432x28x1x4, hi 4#32⟩, ⟨S18432x28x1x4, hi 6#32⟩]
    concatenates_S18432x28x1x4_S18432x28x1x4_S18432x28x1x4_S18432x28x1x4_S18432x28x4x4_d2
  let v30 := shapeCast S18432x28x16 v29 shapeCasts_S18432x28x4x4_S18432x28x16
  let v33 := ori v7 (Host.shli v30 (broadcastInDim S18432x28x16 ![] bcast_S_S18432x28x16 (constantI S_ 32 4#32)))
  subi v33 (broadcastInDim S18432x28x16 ![] bcast_S_S18432x28x16 (constantI S_ 32 32#32))

/-- The groups' scales times the rows' scales, narrowed. -/
def refG (s : IVec S18432x28x12 8) (d : FVec F S18432x28 .f32) : FVec F S18432x28x16 .bf16 :=
  truncf .bf16 (mulf (broadcastInDim S18432x28x16 ![0, 1, 2] bcast_S18432x28x1_S18432x28x16_0_1_2
    (broadcastInDim S18432x28x1 ![0, 1] bcast_S18432x28_S18432x28x1_0_1 d)) (sitofp .f32 (refSc s))) bitsLt_bf16_f32

/-- The activations by block, half, quarter and lane. -/
def refX (x : FVec F S1x128x7168 .bf16) : FVec F S1x128x28x2x4x32 .bf16 :=
  shapeCast S1x128x28x2x4x32 x shapeCasts_S1x128x7168_S1x128x28x2x4x32

/-- The widened low bits of one half. -/
def refQ (q : IVec S18432x28x64 8) (o : Fin 3 → Nat) (h : S18432x28x64.Slices o S18432x28x32) : IVec S18432x28x32 32 :=
  extractStridedSlice S18432x28x32 o (extui 32 q natLt_8_32) h

/-- The weights' signed integers of one quarter. -/
def refA (q h : IVec S18432x28x32 32) (lj hj : BitVec 32) : IVec S18432x28x32 32 :=
  subi (addi (andi (Host.shrsi q (broadcastInDim S18432x28x32 ![] bcast_S_S18432x28x32 (constantI S_ 32 lj)))
      (broadcastInDim S18432x28x32 ![] bcast_S_S18432x28x32 (constantI S_ 32 3#32)))
    (muli (broadcastInDim S18432x28x32 ![] bcast_S_S18432x28x32 (constantI S_ 32 4#32))
      (andi (Host.shrsi h (broadcastInDim S18432x28x32 ![] bcast_S_S18432x28x32 (constantI S_ 32 hj)))
        (broadcastInDim S18432x28x32 ![] bcast_S_S18432x28x32 (constantI S_ 32 1#32)))))
    (broadcastInDim S18432x28x32 ![] bcast_S_S18432x28x32 (constantI S_ 32 4#32))

/-- The weights of one quarter: integers times scales. -/
def refW (a : IVec S18432x28x32 32) (g : FVec F S18432x28x16 .bf16) (o : Fin 3 → Nat) (ho : S18432x28x16.Slices o S18432x28x2) : FVec F S18432x28x32 .bf16 :=
  shapeCast S18432x28x32 (mulf (shapeCast S18432x28x2x16 (sitofp .bf16 a) shapeCasts_S18432x28x32_S18432x28x2x16)
    (broadcastInDim S18432x28x2x16 ![0, 1, 2, 3] bcast_S18432x28x2x1_S18432x28x2x16_0_1_2_3
      (broadcastInDim S18432x28x2x1 ![0, 1, 2] bcast_S18432x28x2_S18432x28x2x1_0_1_2 (extractStridedSlice S18432x28x2 o g ho))))
    shapeCasts_S18432x28x2x16_S18432x28x32

/-- One quarter's product. -/
def refP (x : FVec F S1x128x28x2x4x32 .bf16) (o : Fin 6 → Nat) (ho : S1x128x28x2x4x32.Slices o S1x128x28x1x1x32) (w : FVec F S18432x28x32 .bf16) :
    FVec F S1x128x18432 .f32 :=
  Host.dotGeneral dot_S1x128x28x32_S18432x28x32_S1x128x18432_32_21_01_0_n_n none
    (shapeCast S1x128x28x32 (extractStridedSlice S1x128x28x1x1x32 o x ho) shapeCasts_S1x128x28x1x1x32_S1x128x28x32 : FVec F S1x128x28x32 .bf16) w

variable (V : Valuation τ sig (Elt F))

/-- The result: the eight quarters' products added one after another, narrowed. -/
def refY : FVec F S1x128x18432 .bf16 :=
  truncf .bf16 (addf (addf (addf (addf (addf (addf (addf (refP (refX (V (Proc.devRef .tc main_arg0))) ![0, 0, 0, 0, 0, 0] slices_S1x128x28x2x4x32_S1x128x28x1x1x32_0_0_0_0_0_0
      (refW (refA (refQ (V (Proc.devRef .tc main_arg2)) ![0, 0, 0] slices_S18432x28x64_S18432x28x32_0_0_0) (extui 32 (V (Proc.devRef .tc main_arg1) : IVec S18432x28x32 8) natLt_8_32) 0#32 0#32)
        (refG (V (Proc.devRef .tc main_arg3)) (V (Proc.devRef .tc main_v0))) ![0, 0, 0] slices_S18432x28x16_S18432x28x2_0_0_0))
    (refP (refX (V (Proc.devRef .tc main_arg0))) ![0, 0, 0, 0, 1, 0] slices_S1x128x28x2x4x32_S1x128x28x1x1x32_0_0_0_0_1_0
      (refW (refA (refQ (V (Proc.devRef .tc main_arg2)) ![0, 0, 0] slices_S18432x28x64_S18432x28x32_0_0_0) (extui 32 (V (Proc.devRef .tc main_arg1) : IVec S18432x28x32 8) natLt_8_32) 2#32 1#32)
        (refG (V (Proc.devRef .tc main_arg3)) (V (Proc.devRef .tc main_v0))) ![0, 0, 2] slices_S18432x28x16_S18432x28x2_0_0_2)))
    (refP (refX (V (Proc.devRef .tc main_arg0))) ![0, 0, 0, 0, 2, 0] slices_S1x128x28x2x4x32_S1x128x28x1x1x32_0_0_0_0_2_0
      (refW (refA (refQ (V (Proc.devRef .tc main_arg2)) ![0, 0, 0] slices_S18432x28x64_S18432x28x32_0_0_0) (extui 32 (V (Proc.devRef .tc main_arg1) : IVec S18432x28x32 8) natLt_8_32) 4#32 2#32)
        (refG (V (Proc.devRef .tc main_arg3)) (V (Proc.devRef .tc main_v0))) ![0, 0, 4] slices_S18432x28x16_S18432x28x2_0_0_4)))
    (refP (refX (V (Proc.devRef .tc main_arg0))) ![0, 0, 0, 0, 3, 0] slices_S1x128x28x2x4x32_S1x128x28x1x1x32_0_0_0_0_3_0
      (refW (refA (refQ (V (Proc.devRef .tc main_arg2)) ![0, 0, 0] slices_S18432x28x64_S18432x28x32_0_0_0) (extui 32 (V (Proc.devRef .tc main_arg1) : IVec S18432x28x32 8) natLt_8_32) 6#32 3#32)
        (refG (V (Proc.devRef .tc main_arg3)) (V (Proc.devRef .tc main_v0))) ![0, 0, 6] slices_S18432x28x16_S18432x28x2_0_0_6)))
    (refP (refX (V (Proc.devRef .tc main_arg0))) ![0, 0, 0, 1, 0, 0] slices_S1x128x28x2x4x32_S1x128x28x1x1x32_0_0_0_1_0_0
      (refW (refA (refQ (V (Proc.devRef .tc main_arg2)) ![0, 0, 32] slices_S18432x28x64_S18432x28x32_0_0_32) (extui 32 (V (Proc.devRef .tc main_arg1) : IVec S18432x28x32 8) natLt_8_32) 0#32 4#32)
        (refG (V (Proc.devRef .tc main_arg3)) (V (Proc.devRef .tc main_v0))) ![0, 0, 8] slices_S18432x28x16_S18432x28x2_0_0_8)))
    (refP (refX (V (Proc.devRef .tc main_arg0))) ![0, 0, 0, 1, 1, 0] slices_S1x128x28x2x4x32_S1x128x28x1x1x32_0_0_0_1_1_0
      (refW (refA (refQ (V (Proc.devRef .tc main_arg2)) ![0, 0, 32] slices_S18432x28x64_S18432x28x32_0_0_32) (extui 32 (V (Proc.devRef .tc main_arg1) : IVec S18432x28x32 8) natLt_8_32) 2#32 5#32)
        (refG (V (Proc.devRef .tc main_arg3)) (V (Proc.devRef .tc main_v0))) ![0, 0, 10] slices_S18432x28x16_S18432x28x2_0_0_10)))
    (refP (refX (V (Proc.devRef .tc main_arg0))) ![0, 0, 0, 1, 2, 0] slices_S1x128x28x2x4x32_S1x128x28x1x1x32_0_0_0_1_2_0
      (refW (refA (refQ (V (Proc.devRef .tc main_arg2)) ![0, 0, 32] slices_S18432x28x64_S18432x28x32_0_0_32) (extui 32 (V (Proc.devRef .tc main_arg1) : IVec S18432x28x32 8) natLt_8_32) 4#32 6#32)
        (refG (V (Proc.devRef .tc main_arg3)) (V (Proc.devRef .tc main_v0))) ![0, 0, 12] slices_S18432x28x16_S18432x28x2_0_0_12)))
    (refP (refX (V (Proc.devRef .tc main_arg0))) ![0, 0, 0, 1, 3, 0] slices_S1x128x28x2x4x32_S1x128x28x1x1x32_0_0_0_1_3_0
      (refW (refA (refQ (V (Proc.devRef .tc main_arg2)) ![0, 0, 32] slices_S18432x28x64_S18432x28x32_0_0_32) (extui 32 (V (Proc.devRef .tc main_arg1) : IVec S18432x28x32 8) natLt_8_32) 6#32 7#32)
        (refG (V (Proc.devRef .tc main_arg3)) (V (Proc.devRef .tc main_v0))) ![0, 0, 14] slices_S18432x28x16_S18432x28x2_0_0_14))) bitsLt_bf16_f32

set_option maxHeartbeats 4000000 in
/-- The scales before narrowing, read off the host operations. -/
theorem at39 : upto Gen.hostOps1 V 51 (no_index (Proc.devRef .tc main_v39)) =
    mulf (broadcastInDim S18432x28x16 ![0, 1, 2] bcast_S18432x28x1_S18432x28x16_0_1_2
      (broadcastInDim S18432x28x1 ![0, 1] bcast_S18432x28_S18432x28x1_0_1 (V (Proc.devRef .tc main_v0)))) (sitofp .f32 (refSc (V (Proc.devRef .tc main_arg3)))) := by
  after_reads_simp
  rfl

set_option maxHeartbeats 40000000 in
/-- The result, read off the host operations. -/
theorem at237 : after Gen.hostOps1 V (Proc.devRef .tc main_v237) = refY V := by
  after_reads_simp [at39]
  rfl

end Cert.Proof.Val
-- ==== Proof.Val.RefIdx.lean ====
module

public import proofs.«01_k».proof.Proof.Val.Ref
public import proofs.«01_k».proof.Proof.Val.Out
public import Idealize.ShloMosaic.Lib.Pointwise

/-! The reference's result at an index, as the same sum. -/

@[expose] public section

set_option maxRecDepth 16384

noncomputable section

namespace Cert.Proof.Val

open Idealize.ShloMosaic Idealize.ShloMosaic.TcCoe Idealize.ShloMosaic.StableHlo
open Cert.ReferenceIdeal Cert.ReferenceIdeal.Facts₀ Cert.ReferenceIdeal.Facts

theorem shr_host (x : BitVec 32) (k : Nat) (hk : k < 32) : IntOp.shrsi ArithUnit.host x (BitVec.ofNat 32 k) = x.sshiftRight k := by
  unfold IntOp.shrsi
  have e : (BitVec.ofNat 32 k).toNat = k := by rw [BitVec.toNat_ofNat]; exact Nat.mod_eq_of_lt (by omega)
  rw [e, if_pos hk, BitVec.sshiftRight', e]

theorem refA_apply (q h : IVec S18432x28x32 32) (lj hj : Nat) (h1 : lj < 32) (h2 : hj < 32) (i : S18432x28x32.Idx) :
    refA q h (BitVec.ofNat 32 lj) (BitVec.ofNat 32 hj) i = ((q i).sshiftRight lj &&& 3#32) + 4#32 * ((h i).sshiftRight hj &&& 1#32) - 4#32 := by
  unfold refA
  pointwise
  rw [shr_host _ _ h1, shr_host _ _ h2]
  rfl

theorem refQ_apply (q : IVec S18432x28x64 8) (k : Nat) (h : S18432x28x64.Slices ![0, 0, k] S18432x28x32) (a : Fin 18432) (b : Fin 28) (c : Fin 32)
    (hk : k + c.val < 64) : refQ q ![0, 0, k] h (ix3 a b c) = BitVec.setWidth 32 (q (ix3 a b ⟨k + c.val, hk⟩)) := by
  unfold refQ
  pointwise

theorem refX_apply (x : FVec Ideal S1x128x7168 .bf16) (s : Fin 128) (n : Fin 28) (h : Fin 2) (j : Fin 4) (l : Fin 32) :
    refX x (ix6 0 s n h j l) = x (ix3 0 s ⟨n.val * 256 + h.val * 128 + j.val * 32 + l.val, by omega⟩) := by
  unfold refX
  pointwise

theorem refP_apply (x : FVec Ideal S1x128x28x2x4x32 .bf16) (h : Fin 2) (j : Fin 4) (ho : S1x128x28x2x4x32.Slices ![0, 0, 0, h.val, j.val, 0] S1x128x28x1x1x32)
    (w : FVec Ideal S18432x28x32 .bf16) (s : Fin 128) (o : Fin 18432) :
    refP x ![0, 0, 0, h.val, j.val, 0] ho w (ix3 0 s o) = ∑ l : Fin 32, ∑ n : Fin 28, x (ix6 0 s n h j l) * w (ix3 o n l) := by
  unfold refP
  pointwise

theorem refW_apply (w : IVec S18432x28x32 32) (g : FVec Ideal S18432x28x16 .bf16) (k : Nat) (h : S18432x28x16.Slices ![0, 0, k] S18432x28x2) (a : Fin 18432)
    (b : Fin 28) (c : Fin 32) (hk : k + c.val / 16 < 16) :
    refW w g ![0, 0, k] h (ix3 a b c) = (((w (ix3 a b c)).toInt : ℝ) : EReal) * g (ix3 a b ⟨k + c.val / 16, hk⟩) := by
  unfold refW
  pointwise
  rfl

theorem refG_apply (s : IVec S18432x28x12 8) (d : FVec Ideal S18432x28 .f32) (a : Fin 18432) (b : Fin 28) (c : Fin 16) :
    refG s d (ix3 a b c) = d (ix2 a b) * (((refSc s (ix3 a b c)).toInt : ℝ) : EReal) := by
  unfold refG
  pointwise
  rfl

theorem loNib : ∀ b : BitVec 8, (b.setWidth 32).sshiftRight 4 = (b.setWidth 32).sshiftRight 4 &&& 15#32 := by decide +kernel
theorem loNib0 : ∀ b : BitVec 8, b.setWidth 32 &&& 15#32 = (b.setWidth 32).sshiftRight 0 &&& 15#32 := by decide +kernel

theorem refSc_apply (s : IVec S18432x28x12 8) (a : Fin 18432) (b : Fin 28) (c : Fin 16) :
    refSc s (ix3 a b c) = sc6 (s (ix3 a b ⟨c.val % 8, by omega⟩)) (s (ix3 a b ⟨8 + c.val % 4, by omega⟩)) (4 * (c.val / 8)) (2 * (c.val / 4)) := by
  have hc := c.isLt
  have lo : ∀ (p : Fin 12) (n : Nat), p.val = c.val % 8 → c.val / 8 = n → ((s (ix3 a b p)).setWidth 32).sshiftRight (4 * n) &&& 15#32 =
      ((s (ix3 a b ⟨c.val % 8, by omega⟩)).setWidth 32).sshiftRight (4 * (c.val / 8)) &&& 15#32 := by
    rintro p n hp rfl
    rw [show p = ⟨c.val % 8, by omega⟩ from Fin.ext hp]
  have hi : ∀ n : Nat, c.val / 4 = n → (((s (ix3 a b ⟨8 + c.val % 4, by omega⟩)).setWidth 32).sshiftRight (2 * n) &&& 3#32) <<< 4 =
      (((s (ix3 a b ⟨8 + c.val % 4, by omega⟩)).setWidth 32).sshiftRight (2 * (c.val / 4)) &&& 3#32) <<< 4 := by
    rintro n rfl; rfl
  unfold refSc
  pointwise
  unfold sc6
  refine congrArg₂ (fun u v : BitVec 32 => (u ||| v) - 32#32) ?_ ?_
  · clear hi
    split
    · next h => exact (loNib0 _).trans (lo ⟨c.val, by omega⟩ 0 (by show c.val = c.val % 8; omega) (by omega))
    · next h => exact ((shr_host _ 4 (by decide)).trans (loNib _)).trans (lo ⟨c.val - 8, by omega⟩ 1 (by show c.val - 8 = c.val % 8; omega) (by omega))
  · clear lo
    split
    · next h1 => exact hi 0 (by omega)
    · next h1 =>
      split
      · next h2 => exact hi 1 (by omega)
      · next h2 =>
        split
        · next h3 => exact hi 2 (by omega)
        · next h3 => exact hi 3 (by omega)

/-! ## The result -/

variable (V : Valuation τ sig (Elt Ideal))

/-- One quarter's product at an index. -/
theorem part_apply (x : FVec Ideal S1x128x7168 .bf16) (q : IVec S18432x28x64 8) (h : IVec S18432x28x32 8) (s : IVec S18432x28x12 8) (d : FVec Ideal S18432x28 .f32)
    (k : Fin 2) (j : Fin 4)
    (h1 : S1x128x28x2x4x32.Slices ![0, 0, 0, k.val, j.val, 0] S1x128x28x1x1x32) (h2 : S18432x28x64.Slices ![0, 0, 32 * k.val] S18432x28x32)
    (h3 : S18432x28x16.Slices ![0, 0, 8 * k.val + 2 * j.val] S18432x28x2) (a : Fin 128) (o : Fin 18432) :
    refP (refX x) ![0, 0, 0, k.val, j.val, 0] h1 (refW (refA (refQ q ![0, 0, 32 * k.val] h2) (extui 32 h natLt_8_32) (BitVec.ofNat 32 (2 * j.val)) (BitVec.ofNat 32 (4 * k.val + j.val)))
      (refG s d) ![0, 0, 8 * k.val + 2 * j.val] h3) (ix3 0 a o) =
    ∑ l : Fin 32, ∑ n : Fin 28, x (ix3 0 a ⟨n.val * 256 + k.val * 128 + j.val * 32 + l.val, by omega⟩) *
      ((((aI (q (ix3 o n ⟨32 * k.val + l.val, by omega⟩)) (h (ix3 o n l)) k.val j.val).toInt : ℝ) : EReal) * (d (ix2 o n) *
      (((sc6 (s (ix3 o n ⟨(2 * j.val + l.val / 16) % 8, by omega⟩)) (s (ix3 o n ⟨8 + (2 * j.val + l.val / 16) % 4, by omega⟩)) (4 * k.val)
        (2 * (2 * k.val + j.val / 2))).toInt : ℝ) : EReal))) := by
  rw [refP_apply]
  refine Finset.sum_congr rfl fun l _ => Finset.sum_congr rfl fun n _ => ?_
  have hk := k.isLt
  have hj := j.isLt
  have hl := l.isLt
  rw [refX_apply, refW_apply _ _ _ _ _ _ _ (by omega), refA_apply _ _ _ _ (by omega) (by omega), refQ_apply _ _ _ _ _ _ (by omega), refG_apply, refSc_apply]
  have e1 : (8 * k.val + 2 * j.val + l.val / 16) % 8 = (2 * j.val + l.val / 16) % 8 := by omega
  have e2 : (8 * k.val + 2 * j.val + l.val / 16) % 4 = (2 * j.val + l.val / 16) % 4 := by omega
  have e3 : (8 * k.val + 2 * j.val + l.val / 16) / 8 = k.val := by omega
  have e4 : (8 * k.val + 2 * j.val + l.val / 16) / 4 = 2 * k.val + j.val / 2 := by omega
  simp only [e1, e2, e3, e4]
  rfl

/-- The reference's result at an index, from its arguments and its scales' values. -/
theorem refY_apply (a : Fin 128) (o : Fin 18432) (D : Fin 28 → BitVec 16)
    (hD : ∀ n, (V (Proc.devRef .tc main_v0) : FVec Ideal S18432x28 .f32) (ix2 o n) = Ideal.ofBits .f16 (D n)) :
    refY V (ix3 0 a o) = specY (fun n => (V (Proc.devRef .tc main_arg0) : FVec Ideal S1x128x7168 .bf16) (ix3 0 a n))
      (fun n p => (V (Proc.devRef .tc main_arg2) : IVec S18432x28x64 8) (ix3 o n p)) (fun n p => (V (Proc.devRef .tc main_arg1) : IVec S18432x28x32 8) (ix3 o n p))
      (fun n p => (V (Proc.devRef .tc main_arg3) : IVec S18432x28x12 8) (ix3 o n p)) D := by
  have h := fun (k : Fin 2) (j : Fin 4) h1 h2 h3 => part_apply (V (Proc.devRef .tc main_arg0)) (V (Proc.devRef .tc main_arg2)) (V (Proc.devRef .tc main_arg1))
    (V (Proc.devRef .tc main_arg3)) (V (Proc.devRef .tc main_v0)) k j h1 h2 h3 a o
  simp only [hD] at h
  unfold specY
  simp only [Fin.sum_univ_two (M := EReal), Fin.sum_univ_four (M := EReal) (f := fun j : Fin 4 => ∑ l : Fin 32, _), ← add_assoc]
  unfold refY
  exact congrArg₂ (fun u v : EReal => u + v) (congrArg₂ (fun u v : EReal => u + v) (congrArg₂ (fun u v : EReal => u + v) (congrArg₂ (fun u v : EReal => u + v)
    (congrArg₂ (fun u v : EReal => u + v) (congrArg₂ (fun u v : EReal => u + v) (congrArg₂ (fun u v : EReal => u + v) (h 0 0 _ _ _) (h 0 1 _ _ _)) (h 0 2 _ _ _)) (h 0 3 _ _ _))
    (h 1 0 _ _ _)) (h 1 1 _ _ _)) (h 1 2 _ _ _)) (h 1 3 _ _ _)

end Cert.Proof.Val
-- ==== Proof.Val.RefEnd.lean ====
module

public import proofs.«01_k».proof.Proof.Val.RefIdx
public import Idealize.ShloMosaic.Lib.Pipeline.ValueKit

/-! What the reference leaves in its result. -/

@[expose] public section

set_option maxRecDepth 16384

noncomputable section

namespace Cert.Proof.Val

open Idealize.ShloMosaic Idealize.ShloMosaic.TcCoe Idealize.ShloMosaic.StableHlo Idealize.SL.Sem
open Cert.ReferenceIdeal Cert.ReferenceIdeal.Facts₀ Cert.ReferenceIdeal.Facts

variable (m : (ℓ : Loc nD τ sig) → Buf (Elt Ideal) ℓ)

/-- The windows' one block. -/
theorem idxR : ∀ t : Fin cfg0.N, (cfg0.win 0).index t = ![0, 0] ∧ (cfg0.win 1).index t = ![0, 0] := by
  decide +kernel

/-- What the region's body leaves: its block widened. -/
theorem out_eq (x : Vec Ideal S18432x28 .i16) : Gen.out0_1 x = Gen.k0_pay1 x := by
  show View.canon [(⟨Gen.r0_0, Gen.k0_pay1 (View.ld x Gen.r0_0)⟩ : View.Piece (Elt Ideal) S18432x28 .f32)] = _
  refine (View.canon_cons_unit_lit _ _ _ (by decide)).trans ?_
  exact congrArg _ (View.ld_unit_lit _ _ (by decide))

set_option maxHeartbeats 1000000 in
/-- The widened scales' array at the end of the region. -/
theorem arr1 (c : Dev nD) : (Gen.dats m 0 c).arrAt 1 cfg0.N =
    (fun i => Ideal.ofBits .f16 ((m ((c.tc : Thread nD τ).loc main_arg4) : IVec S18432x28 16) i) : FVec Ideal S18432x28 .f32) := by
  refine (Gen.dats m 0 c).arrAt_eq_of_covers 1 _ (by decide +kernel) fun t hf y => ?_
  rw [Gen.after0_1]
  rw [out_eq]
  blk_simp [Gen.iblk, Gen.V]
  refine congrArg (fun i => Ideal.ofBits .f16 ((m ((c.tc : Thread nD τ).loc main_arg4) : IVec S18432x28 16) i)) (?_ : ((cfg0.win 0).blk t).view.emb y = ((win0_1.blk t).view.emb y))
  blk_ext [(idxR t).1, (idxR t).2]

/-- The reference's result at a row of activations and a row of weights. -/
def rY (c : Dev nD) (s : Fin 128) (o : Fin 18432) : EReal :=
  specY (fun n => (m ((c.tc : Thread nD τ).loc main_arg0) : FVec Ideal S1x128x7168 .bf16) (ix3 0 s n))
    (fun n p => (m ((c.tc : Thread nD τ).loc main_arg2) : IVec S18432x28x64 8) (ix3 o n p))
    (fun n p => (m ((c.tc : Thread nD τ).loc main_arg1) : IVec S18432x28x32 8) (ix3 o n p))
    (fun n p => (m ((c.tc : Thread nD τ).loc main_arg3) : IVec S18432x28x12 8) (ix3 o n p))
    (fun n => (m ((c.tc : Thread nD τ).loc main_arg4) : IVec S18432x28 16) (ix2 o n))

/-- The contents of the buffers after the region. -/
def VR (c : Dev nD) : Valuation τ sig (Elt Ideal) :=
  Pipeline.withArrays spec0 c (Gen.V0 m c) (fun w => (Gen.dats m 0 c).arrAt w cfg0.N)

/-- The widened block scales after the region. -/
theorem VR_v0 (c : Dev nD) : VR m c (Proc.devRef .tc main_v0) =
    (fun i => Ideal.ofBits .f16 ((m ((c.tc : Thread nD τ).loc main_arg4) : IVec S18432x28 16) i) : FVec Ideal S18432x28 .f32) :=
  (Pipeline.withArrays_arr spec0 (by decide) c (Gen.V0 m c) (fun w => (Gen.dats m 0 c).arrAt w cfg0.N) 1).trans (arr1 m c)
/-- The activations are as launched. -/
theorem VR_arg0 (c : Dev nD) : VR m c (Proc.devRef .tc main_arg0) = m ((c.tc : Thread nD τ).loc main_arg0) :=
  Pipeline.withArrays_of_ne _ c (Gen.V0 m c) _ main_arg0 (by exact (by decide : ∀ w, Pipeline.arrRef spec0 w ≠ main_arg0))
/-- The high bits are as launched. -/
theorem VR_arg1 (c : Dev nD) : VR m c (Proc.devRef .tc main_arg1) = m ((c.tc : Thread nD τ).loc main_arg1) :=
  Pipeline.withArrays_of_ne _ c (Gen.V0 m c) _ main_arg1 (by exact (by decide : ∀ w, Pipeline.arrRef spec0 w ≠ main_arg1))
/-- The low bits are as launched. -/
theorem VR_arg2 (c : Dev nD) : VR m c (Proc.devRef .tc main_arg2) = m ((c.tc : Thread nD τ).loc main_arg2) :=
  Pipeline.withArrays_of_ne _ c (Gen.V0 m c) _ main_arg2 (by exact (by decide : ∀ w, Pipeline.arrRef spec0 w ≠ main_arg2))
/-- The scales' bytes are as launched. -/
theorem VR_arg3 (c : Dev nD) : VR m c (Proc.devRef .tc main_arg3) = m ((c.tc : Thread nD τ).loc main_arg3) :=
  Pipeline.withArrays_of_ne _ c (Gen.V0 m c) _ main_arg3 (by exact (by decide : ∀ w, Pipeline.arrRef spec0 w ≠ main_arg3))

/-- The result's buffer after the host's operations. -/
theorem res_v237 (c : Dev nD) : Pipeline.afterTail₀ cfgs (Gen.dats m) 0 (Gen.V0 m) [Gen.hostOps1] c main_v237
    = (fun i : S1x128x18432.Idx => rY m c (i 1) (i 2) : FVec Ideal S1x128x18432 .bf16) := by
  have f : Pipeline.afterTail₀ cfgs (Gen.dats m) 0 (Gen.V0 m) [Gen.hostOps1] c main_v237 = refY (VR m c) := by
    unfold Pipeline.afterTail₀
    simp only [List.flatten_cons, List.flatten_nil, List.append_nil]
    exact at237 (VR m c)
  refine f.trans ?_
  funext i
  have e0 : i 0 = (0 : Fin 1) := Subsingleton.elim (α := Fin 1) _ _
  have ei : i = ix3 (0 : Fin 1) (i 1) (i 2) := (ix3_eta i).symm.trans (congrArg (fun z : Fin 1 => (ix3 z (i 1) (i 2) : S1x128x18432.Idx)) e0)
  refine (congrArg (refY (VR m c)) ei).trans ?_
  refine (refY_apply (VR m c) (i 1) (i 2) (fun n => (m ((c.tc : Thread nD τ).loc main_arg4) : IVec S18432x28 16) (ix2 (i 2) n))
    (fun n => congrFun (VR_v0 m c) _)).trans ?_
  rw [VR_arg0, VR_arg1, VR_arg2, VR_arg3]
  rfl

/-- The reference's run: its result at every index, its arguments unchanged. -/
theorem ref_run (g : Dev nD → PrngReg) :
    θ_run (defs (F := Ideal)) (onTc (τ := τ) (main (F := Ideal))) ⟨m, fun _ => 0, g⟩ (fun r => ∀ c : Dev nD,
      r.2.mem ((c.tc : Thread nD τ).loc main_v237) = (fun i : S1x128x18432.Idx => rY m c (i 1) (i 2) : FVec Ideal S1x128x18432 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨((h.1 c).2 main_v237 (Pipeline.mem_restRefs_of main_v237 (by decide) (by decide))).trans (res_v237 m c), h.2.1 c⟩)
    (θ_run_and (Gen.run_main m g) (Gen.frame m g))

end Cert.Proof.Val
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.PK.Run
public import proofs.«01_k».proof.Proof.PI.Run
public import proofs.«01_k».proof.Proof.Val.KerEnd
public import proofs.«01_k».proof.Proof.Val.RefEnd
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem

/-- Each exit of the idealization's `bf16_pair` rule satisfies the rule's statement at its shapes. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

/-- The idealized kernel and the reference leave the same result: at every row of activations and every row of weights,
    the sum over the blocks of the row's activations against the decoded weights. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨_, Val.ker_run m g, (θ_run _ _ _).mono (fun r h c => ⟨(h c).1.trans ?_, (h c).2⟩) (Val.ref_run m' g')⟩
  obtain ⟨h0, h1, h2, h3, h4⟩ := hm c
  funext i
  unfold Val.rY Val.kY
  rw [h0, h1, h2, h3, h4]

/-- Everything claimed: both kernels and the reference run with their arguments unchanged and their counters at zero, the
    idealized kernel is the kernel read by the rules, and it leaves the reference's result. -/
theorem claim : Cert.Claim :=
  ⟨Cert.Kernel.Gen.facts, Cert.KernelIdeal.Gen.facts, Cert.ReferenceIdeal.Gen.facts,
    fun m g _ => Cert.Proof.PK.frame m g, fun m g _ => Cert.Proof.PI.frame m g,
    fun m g _ => Cert.ReferenceIdeal.Gen.frame m g, preserves, algebraic⟩

end Cert.Proof

end
